-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x2048x4x7168 : Shape := ⟨4, ![3, 2048, 4, 7168]⟩
abbrev S3x2048x4 : Shape := ⟨3, ![3, 2048, 4]⟩
abbrev S7168 : Shape := ⟨1, ![7168]⟩
abbrev S3x2048x7168 : Shape := ⟨3, ![3, 2048, 7168]⟩
abbrev S3x4x2048 : Shape := ⟨3, ![3, 4, 2048]⟩
abbrev S1x7168 : Shape := ⟨2, ![1, 7168]⟩
abbrev S3x2048 : Shape := ⟨2, ![3, 2048]⟩
abbrev S1x128x4x7168 : Shape := ⟨4, ![1, 128, 4, 7168]⟩
abbrev S1x4x128 : Shape := ⟨3, ![1, 4, 128]⟩
abbrev S1x128x7168 : Shape := ⟨3, ![1, 128, 7168]⟩
abbrev S4x128 : Shape := ⟨2, ![4, 128]⟩
abbrev S8x128 : Shape := ⟨2, ![8, 128]⟩
abbrev S128x8 : Shape := ⟨2, ![128, 8]⟩
abbrev S64x8 : Shape := ⟨2, ![64, 8]⟩
abbrev S64x256 : Shape := ⟨2, ![64, 256]⟩
abbrev S64x1 : Shape := ⟨2, ![64, 1]⟩
abbrev S64x128 : Shape := ⟨2, ![64, 128]⟩
abbrev S1x64x4x128 : Shape := ⟨4, ![1, 64, 4, 128]⟩
abbrev S64x4x128 : Shape := ⟨3, ![64, 4, 128]⟩
abbrev S256x128 : Shape := ⟨2, ![256, 128]⟩
abbrev S256x256 : Shape := ⟨2, ![256, 256]⟩
abbrev S1x64x256 : Shape := ⟨3, ![1, 64, 256]⟩
abbrev S1x256 : Shape := ⟨2, ![1, 256]⟩
abbrev S64 : Shape := ⟨1, ![64]⟩
abbrev S128x1 : Shape := ⟨2, ![128, 1]⟩
abbrev S128x128 : Shape := ⟨2, ![128, 128]⟩
abbrev S128 : Shape := ⟨1, ![128]⟩
abbrev S1x128 : Shape := ⟨2, ![1, 128]⟩

abbrev nBuf : Space → Nat
  | .hbm => 11
  | .vmem => 13
  | .smem => 0
  | _ => 0

abbrev bufTy : (tb : Table) → Fin (tcTables nBuf tb) → BufTy
  | .hbm, ⟨0, _⟩ => ⟨S3x2048x4x7168, .fp8e4m3⟩
  | .hbm, ⟨1, _⟩ => ⟨S3x2048x4, .f32⟩
  | .hbm, ⟨2, _⟩ => ⟨S7168, .f32⟩
  | .hbm, ⟨3, _⟩ => ⟨S3x2048x7168, .bf16⟩
  | .hbm, ⟨4, _⟩ => ⟨S7168, .f32⟩
  | .hbm, ⟨5, _⟩ => ⟨S3x4x2048, .f32⟩
  | .hbm, ⟨6, _⟩ => ⟨S1x7168, .f32⟩
  | .hbm, ⟨7, _⟩ => ⟨S1x7168, .f32⟩
  | .hbm, ⟨8, _⟩ => ⟨S3x2048x7168, .bf16⟩
  | .hbm, ⟨9, _⟩ => ⟨S3x2048x7168, .fp8e4m3⟩
  | .hbm, ⟨10, _⟩ => ⟨S3x2048, .f32⟩
  | .local _ .vmem, ⟨0, _⟩ => ⟨S1x128x4x7168, .fp8e4m3⟩
  | .local _ .vmem, ⟨1, _⟩ => ⟨S1x128x4x7168, .fp8e4m3⟩
  | .local _ .vmem, ⟨2, _⟩ => ⟨S1x4x128, .f32⟩
  | .local _ .vmem, ⟨3, _⟩ => ⟨S1x4x128, .f32⟩
  | .local _ .vmem, ⟨4, _⟩ => ⟨S1x7168, .f32⟩
  | .local _ .vmem, ⟨5, _⟩ => ⟨S1x128x7168, .bf16⟩
  | .local _ .vmem, ⟨6, _⟩ => ⟨S1x128x7168, .bf16⟩
  | .local _ .vmem, ⟨7, _⟩ => ⟨S1x7168, .f32⟩
  | .local _ .vmem, ⟨8, _⟩ => ⟨S1x128x7168, .bf16⟩
  | .local _ .vmem, ⟨9, _⟩ => ⟨S1x128x7168, .bf16⟩
  | .local _ .vmem, ⟨10, _⟩ => ⟨S1x128x7168, .fp8e4m3⟩
  | .local _ .vmem, ⟨11, _⟩ => ⟨S1x128x7168, .fp8e4m3⟩
  | .local _ .vmem, ⟨12, _⟩ => ⟨S3x2048, .f32⟩
  | _, _ => ⟨S3x2048x4x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![3, 16], ![false, false]⟩

def k0_cond1 (i : grid0.Coords) : BitVec 1 :=
  let arg0 : BitVec 32 := BitVec.ofNat 32 (i 0).val
  let c0_i32_1678 : BitVec 32 := 0#32
  let v3276 : BitVec 1 := Scalar.cmpi .eq arg0 c0_i32_1678
  let v3277 : BitVec 32 := Scalar.extui v3276
  let c0_i32_1679 : BitVec 32 := 0#32
  let v3278 : BitVec 1 := Scalar.cmpi .ne v3277 c0_i32_1679
  v3278

def k0_mult1 (i : grid0.Coords) : BitVec 32 :=
  let arg1 : BitVec 32 := BitVec.ofNat 32 (i 1).val
  let c128_i32 : BitVec 32 := 128#32
  let v3285 : BitVec 32 := Scalar.muli arg1 c128_i32
  v3285
def k0_off1 (i : grid0.Coords) : Fin 2 → Nat :=
  let c0_1684 : Index := 0#32
  let arg1 : BitVec 32 := BitVec.ofNat 32 (i 1).val
  let c128_i32 : BitVec 32 := 128#32
  let v3285 : BitVec 32 := Scalar.muli arg1 c128_i32
  let v3286 : BitVec 32 := v3285
  let v3287 : Index := Scalar.indexCast v3286
  ![0, v3287.toNat]
def k0_cond2 (i : grid0.Coords) : BitVec 1 :=
  let arg0 : BitVec 32 := BitVec.ofNat 32 (i 0).val
  let c1_i32_1680 : BitVec 32 := 1#32
  let v3279 : BitVec 1 := Scalar.cmpi .eq arg0 c1_i32_1680
  let v3280 : BitVec 32 := Scalar.extui v3279
  let c0_i32_1681 : BitVec 32 := 0#32
  let v3281 : BitVec 1 := Scalar.cmpi .ne v3280 c0_i32_1681
  v3281

def k0_mult2 (i : grid0.Coords) : BitVec 32 :=
  let arg1 : BitVec 32 := BitVec.ofNat 32 (i 1).val
  let c128_i32 : BitVec 32 := 128#32
  let v3285 : BitVec 32 := Scalar.muli arg1 c128_i32
  v3285
def k0_off2 (i : grid0.Coords) : Fin 2 → Nat :=
  let c1 : Index := 1#32
  let arg1 : BitVec 32 := BitVec.ofNat 32 (i 1).val
  let c128_i32 : BitVec 32 := 128#32
  let v3285 : BitVec 32 := Scalar.muli arg1 c128_i32
  let v3286 : BitVec 32 := v3285
  let v3287 : Index := Scalar.indexCast v3286
  ![1, v3287.toNat]
def k0_cond3 (i : grid0.Coords) : BitVec 1 :=
  let arg0 : BitVec 32 := BitVec.ofNat 32 (i 0).val
  let c2_i32_1682 : BitVec 32 := 2#32
  let v3282 : BitVec 1 := Scalar.cmpi .eq arg0 c2_i32_1682
  let v3283 : BitVec 32 := Scalar.extui v3282
  let c0_i32_1683 : BitVec 32 := 0#32
  let v3284 : BitVec 1 := Scalar.cmpi .ne v3283 c0_i32_1683
  v3284

def k0_mult3 (i : grid0.Coords) : BitVec 32 :=
  let arg1 : BitVec 32 := BitVec.ofNat 32 (i 1).val
  let c128_i32 : BitVec 32 := 128#32
  let v3285 : BitVec 32 := Scalar.muli arg1 c128_i32
  v3285
def k0_off3 (i : grid0.Coords) : Fin 2 → Nat :=
  let c2 : Index := 2#32
  let arg1 : BitVec 32 := BitVec.ofNat 32 (i 1).val
  let c128_i32 : BitVec 32 := 128#32
  let v3285 : BitVec 32 := Scalar.muli arg1 c128_i32
  let v3286 : BitVec 32 := v3285
  let v3287 : Index := Scalar.indexCast v3286
  ![2, v3287.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x4x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S3x2048x4x7168 : Shape := ⟨4, ![3, 2048, 4, 7168]⟩
abbrev S3x2048x4 : Shape := ⟨3, ![3, 2048, 4]⟩
abbrev S7168 : Shape := ⟨1, ![7168]⟩
abbrev S3x2048x7168 : Shape := ⟨3, ![3, 2048, 7168]⟩
abbrev S3x2048 : Shape := ⟨2, ![3, 2048]⟩
abbrev S3x2048x1x7168 : Shape := ⟨4, ![3, 2048, 1, 7168]⟩
abbrev S3x2048x1 : Shape := ⟨3, ![3, 2048, 1]⟩
abbrev S1x1x7168 : Shape := ⟨3, ![1, 1, 7168]⟩

abbrev nBuf : Space → Nat
  | .hbm => 8
  | .vmem => 8
  | .smem => 0
  | _ => 0

abbrev bufTy : (tb : Table) → Fin (tcTables nBuf tb) → BufTy
  | .hbm, ⟨0, _⟩ => ⟨S3x2048x4x7168, .fp8e4m3⟩
  | .hbm, ⟨1, _⟩ => ⟨S3x2048x4, .f32⟩
  | .hbm, ⟨2, _⟩ => ⟨S7168, .f32⟩
  | .hbm, ⟨3, _⟩ => ⟨S3x2048x7168, .bf16⟩
  | .hbm, ⟨4, _⟩ => ⟨S7168, .f32⟩
  | .hbm, ⟨5, _⟩ => ⟨S3x2048x7168, .bf16⟩
  | .hbm, ⟨6, _⟩ => ⟨S3x2048x7168, .fp8e4m3⟩
  | .hbm, ⟨7, _⟩ => ⟨S3x2048, .f32⟩
  | .local _ .vmem, ⟨0, _⟩ => ⟨S3x2048x4x7168, .fp8e4m3⟩
  | .local _ .vmem, ⟨1, _⟩ => ⟨S3x2048x4, .f32⟩
  | .local _ .vmem, ⟨2, _⟩ => ⟨S7168, .f32⟩
  | .local _ .vmem, ⟨3, _⟩ => ⟨S3x2048x7168, .bf16⟩
  | .local _ .vmem, ⟨4, _⟩ => ⟨S7168, .f32⟩
  | .local _ .vmem, ⟨5, _⟩ => ⟨S3x2048x7168, .bf16⟩
  | .local _ .vmem, ⟨6, _⟩ => ⟨S3x2048x7168, .fp8e4m3⟩
  | .local _ .vmem, ⟨7, _⟩ => ⟨S3x2048, .f32⟩
  | _, _ => ⟨S3x2048x4x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S3x2048x4x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2048x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2048x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/-
  The frame of the kernel as it is compiled: every execution ends, the arguments keep their contents and the counters end at zero. What
  the kernel leaves in its results is forgotten here. The body is run once, the three conditionals at its end in both ways.
-/
module

public import proofs.«01_k».proof.Proof.Gen.Kernel.Skeleton
public import proofs.«01_k».proof.Proof.Gen.Kernel.Frame
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole staging buffers, the inputs' at known contents and the results' at any: it hands all of them back, the inputs' as
    they were. -/
theorem bodyRun (c : Dev nD) (i : grid0.Coords) (arg2 : Memref sig .tc .vmem S1x128x4x7168 .fp8e4m3) (harg2 : arg2.IsWhole) (arg3 : Memref sig .tc .vmem S1x4x128 .f32) (harg3 : arg3.IsWhole) (arg4 : Memref sig .tc .vmem S1x7168 .f32) (harg4 : arg4.IsWhole) (arg5 : Memref sig .tc .vmem S1x128x7168 .bf16) (harg5 : arg5.IsWhole) (arg6 : Memref sig .tc .vmem S1x7168 .f32) (harg6 : arg6.IsWhole) (arg7 : Memref sig .tc .vmem S1x128x7168 .bf16) (harg7 : arg7.IsWhole) (arg8 : Memref sig .tc .vmem S1x128x7168 .fp8e4m3) (harg8 : arg8.IsWhole) (arg9 : Memref sig .tc .vmem S3x2048 .f32) (harg9 : arg9.IsWhole)
    (x0 : Vec F S1x128x4x7168 .fp8e4m3) (x1 : Vec F S1x4x128 .f32) (x2 : Vec F S1x7168 .f32) (x3 : Vec F S1x128x7168 .bf16) (x4 : Vec F S1x7168 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc0_recv_rmsnorm_fp8 i arg2 harg2 arg3 harg3 arg4 harg4 arg5 harg5 arg6 harg6 arg7 harg7 arg8 harg8 arg9 harg9) K := by
  simp only [cc0_recv_rmsnorm_fp8_eq_skeleton]; unfold cc0_recv_rmsnorm_fp8_skel
  simp only [k0_part86_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part87_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _, _; isplitr; swap; · iexact H5
    ipureintro; rfl
  isplitl [H6]
  · iexists _, _; isplitr; swap; · iexact H6
    ipureintro; rfl
  iexists _, _; isplitr; swap; · iexact H7
  ipureintro; rfl

variable (m : (ℓ : Loc nD τ sig) → Buf (Elt F) ℓ) (ρ : Dev nD → PrngReg)

/-- The frame's statement from a run of any relational proof data whose arrays are the entry contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The body's branch conditions -/

/-! The staging buffer of each window at a point. -/

abbrev ms0_0 (t : Fin cfg0.N) : Memref sig .tc .vmem S1x128x4x7168 .fp8e4m3 := win0_0.stage (cfg0.slots t 0)
abbrev ms0_1 (t : Fin cfg0.N) : Memref sig .tc .vmem S1x4x128 .f32 := win0_1.stage (cfg0.slots t 1)
abbrev ms0_2 (t : Fin cfg0.N) : Memref sig .tc .vmem S1x7168 .f32 := win0_2.stage (cfg0.slots t 2)
abbrev ms0_3 (t : Fin cfg0.N) : Memref sig .tc .vmem S1x128x7168 .bf16 := win0_3.stage (cfg0.slots t 3)
abbrev ms0_4 (t : Fin cfg0.N) : Memref sig .tc .vmem S1x7168 .f32 := win0_4.stage (cfg0.slots t 4)
abbrev ms0_5 (t : Fin cfg0.N) : Memref sig .tc .vmem S1x128x7168 .bf16 := win0_5.stage (cfg0.slots t 5)
abbrev ms0_6 (t : Fin cfg0.N) : Memref sig .tc .vmem S1x128x7168 .fp8e4m3 := win0_6.stage (cfg0.slots t 6)
abbrev ms0_7 (t : Fin cfg0.N) : Memref sig .tc .vmem S3x2048 .f32 := win0_7.stage (cfg0.slots t 7)

/-! ## The pipeline's proof data -/

/-- The windows whose contents this frame forgets: the three results. -/
def forgets0 : Fin 8 → Bool := fun w => w.val == 5 || w.val == 6 || w.val == 7

/-- The proof data: the inputs at their blocks after every point, the results not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the contents at entry. -/
theorem A_eq (c : Dev nD) (w : Fin cfg0.W) : (dats m 0 c).A w = V m c (Pipeline.arrRef spec0 w) := by
  dsimp only [dats]

/-- What the body leaves of each input. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

/-- The body at any point: the inputs' buffers hold their blocks, so the run applies; the invariant passes through unread. -/
theorem sound_body (c : Dev nD) (t : Fin cfg0.N) :
    bodyPre m c t ⊢ wp frame (wpE (defs₀ (F := F)) Variants.none c none) Set.univ (bodyAt0 t) (fun _ => bodyPost m c t) := by
  have hx (w : Fin cfg0.W) (hw : cfg0.idle w (grid0.coords t) = false) : (dats m 0 c).leavesExact w t = owns (c : Thread nD τ) ((cfg0.win w).stage (cfg0.slots t w)) fullShare ((dats m 0 c).after w t) := by
    unfold Dat.leavesExact; rw [hw]
  unfold bodyPre bodyPost bodyAt0
  simp only [before0_0, before0_1, before0_2, before0_3, before0_4]
  rw [hx 0 rfl, hx 1 rfl, hx 2 rfl, hx 3 rfl, hx 4 rfl, after0_0, after0_1, after0_2, after0_3, after0_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (bodyRun c (grid0.coords t) _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run, with every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every input array ends as it was, nothing is said of the results. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Body.lean ====
/-
  The kernel's body as a loop. The printed body is straight-line: two halves of 64 tokens, and in each half 28 blocks of 256 columns,
  first in a pass that forms and stores the residual, then in a pass that quantizes it. Here the same program is written once per kind
  of step, over a half `h : Fin 2` and a column block `n : Fin 28`, with the pure value of each step as a definition of its own.
-/
module

public import proofs.«01_k».proof.Proof.Gen.KernelIdeal.Skeleton

@[expose] public section

set_option maxRecDepth 16384

noncomputable section

namespace Cert.KernelIdeal.Hand

open Idealize.ShloMosaic Idealize.SL.Sem Cert.KernelIdeal Cert.KernelIdeal.Gen

variable {F : FTy → Type} [FloatOps F] [Named F]

/-! ## The pure values of a step -/

theorem slices_half (h : Fin 2) : S128x8.Slices ![64 * h.val, 0] S64x8 := by
  revert h; decide

/-- The block-diagonal matrix of the scales of half `h`: row `t` carries the four scales of its token at columns `4 t, …, 4 t + 3`. -/
def scaleMat (h : Fin 2) (v : Vec F S1x4x128 .f32) : FVec F S64x256 .bf16 :=
  let c : FVec F S4x128 .f32 := shapeCast S4x128 v shapeCasts_S1x4x128_S4x128
  let two : FVec F S8x128 .f32 := concatenate S8x128 0 [⟨S4x128, c⟩, ⟨S4x128, c⟩] concatenates_S4x128_S4x128_S8x128_d0
  let cols : FVec F S64x8 .f32 := extractStridedSlice S64x8 ![64 * h.val, 0] (transpose S128x8 [1, 0] two transposes_S8x128_p1_0_S128x8) (slices_half h)
  let tok : IVec S64x256 32 := iota .tc S64x256 32 [0] iota_S64x256_d0_w32
  let k : IVec S64x256 32 := iota .tc S64x256 32 [1] iota_S64x256_d1_w32
  let s : FVec F S64x256 .f32 := broadcast S64x256 (Scalar.ofBits .f32 0x00000000#32)
  let s : FVec F S64x256 .f32 := select (cmpi .eq k (addi (muli tok (broadcast S64x256 4#32)) (broadcast S64x256 0#32)))
    (broadcastTo S64x256 (shapeCast S64x1 (extractStridedSlice S64x1 ![0, 0] cols slices_S64x8_o0_0_S64x1) shapeCasts_S64x1_S64x1) broadcasts_S64x1_S64x256) s
  let s : FVec F S64x256 .f32 := select (cmpi .eq k (addi (muli tok (broadcast S64x256 4#32)) (broadcast S64x256 1#32)))
    (broadcastTo S64x256 (shapeCast S64x1 (extractStridedSlice S64x1 ![0, 1] cols slices_S64x8_o0_1_S64x1) shapeCasts_S64x1_S64x1) broadcasts_S64x1_S64x256) s
  let s : FVec F S64x256 .f32 := select (cmpi .eq k (addi (muli tok (broadcast S64x256 4#32)) (broadcast S64x256 2#32)))
    (broadcastTo S64x256 (shapeCast S64x1 (extractStridedSlice S64x1 ![0, 2] cols slices_S64x8_o0_2_S64x1) shapeCasts_S64x1_S64x1) broadcasts_S64x1_S64x256) s
  let s : FVec F S64x256 .f32 := select (cmpi .eq k (addi (muli tok (broadcast S64x256 4#32)) (broadcast S64x256 3#32)))
    (broadcastTo S64x256 (shapeCast S64x1 (extractStridedSlice S64x1 ![0, 3] cols slices_S64x8_o0_3_S64x1) shapeCasts_S64x1_S64x1) broadcasts_S64x1_S64x256) s
  truncf .bf16 s bitsLt_bf16_f32

/-- The new residual of a block of 64 tokens by 256 columns: the scaled partial sums off the matrix product, the bias and the residual
    that came in. -/
def resBlock (s : FVec F S64x256 .bf16) (a b : Vec F S1x64x4x128 .fp8e4m3) (x : Vec F S1x64x256 .bf16) (bi : Vec F S1x256 .f32) : FVec F S64x256 .bf16 :=
  let ca : FVec F S256x128 .fp8e4m3 := shapeCast S256x128 (shapeCast S64x4x128 a shapeCasts_S1x64x4x128_S64x4x128) shapeCasts_S64x4x128_S256x128
  let cb : FVec F S256x128 .fp8e4m3 := shapeCast S256x128 (shapeCast S64x4x128 b shapeCasts_S1x64x4x128_S64x4x128) shapeCasts_S64x4x128_S256x128
  let codes : FVec F S256x256 .fp8e4m3 := concatenate S256x256 1 [⟨S256x128, ca⟩, ⟨S256x128, cb⟩] concatenates_S256x128_S256x128_S256x256_d1
  let part : FVec F S64x256 .f32 := matmul dot_S64x256_S256x256_S64x256_1_0_0_1_n_n none s codes (constant S64x256 .f32 0x00000000#32)
  let xs : FVec F S64x256 .f32 := extf .f32 (shapeCast S64x256 x shapeCasts_S1x64x256_S64x256) bitsLt_bf16_f32
  let bs : FVec F S64x256 .f32 := broadcastTo S64x256 (shapeCast S1x256 bi shapeCasts_S1x256_S1x256) broadcasts_S1x256_S64x256
  truncf .bf16 (addf (addf part bs) xs) bitsLt_bf16_f32

/-- The block as it is stored: with a leading axis of size one. -/
def stored (r : FVec F S64x256 .bf16) : FVec F S1x64x256 .bf16 := shapeCast S1x64x256 r shapeCasts_S64x256_S1x64x256

/-- The sum of squares per lane, after the block `r`. -/
def ssqStep (acc : FVec F S64x128 .f32) (r : FVec F S64x256 .bf16) : FVec F S64x128 .f32 :=
  let rf : FVec F S64x256 .f32 := extf .f32 r bitsLt_bf16_f32
  let lo : FVec F S64x128 .f32 := extractStridedSlice S64x128 ![0, 0] rf slices_S64x256_o0_0_S64x128
  let hi : FVec F S64x128 .f32 := extractStridedSlice S64x128 ![0, 128] rf slices_S64x256_o0_128_S64x128
  addf (addf acc (mulf lo lo)) (mulf hi hi)

/-- The largest magnitude of residual times gain per lane, after the block `r` with gains `g`. -/
def amaxStep (acc : FVec F S64x128 .f32) (r : FVec F S64x256 .bf16) (g : Vec F S1x256 .f32) : FVec F S64x128 .f32 :=
  let gs : FVec F S64x256 .f32 := broadcastTo S64x256 (shapeCast S1x256 g shapeCasts_S1x256_S1x256) broadcasts_S1x256_S64x256
  let rg : FVec F S64x256 .f32 := absf (mulf (extf .f32 r bitsLt_bf16_f32) gs)
  maximumf (maximumf acc (extractStridedSlice S64x128 ![0, 0] rg slices_S64x256_o0_0_S64x128))
    (extractStridedSlice S64x128 ![0, 128] rg slices_S64x256_o0_128_S64x128)

/-- The reciprocal root of the mean square. -/
def rstd (ssq : FVec F S64x128 .f32) : FVec F S64x1 .f32 :=
  rsqrt (addf (mulf (shapeCast S64x1 (multiReduction .add [1] S64 ssq 0x00000000#32 reduces_S64x128_S64 (.inl rfl) rfl) shapeCasts_S64_S64x1)
    (broadcast S64x1 (Named.named κ "inv_d" 0x39124925#32))) (broadcast S64x1 (Scalar.ofBits .f32 0x358637BD#32)))

/-- The largest magnitude of the token, over the largest code. -/
def ratio (amax : FVec F S64x128 .f32) (r : FVec F S64x1 .f32) : FVec F S64x1 .f32 :=
  mulf (mulf (shapeCast S64x1 (multiReduction .maximumf [1] S64 amax 0xFF800000#32 reduces_S64x128_S64 (.inl rfl) rfl) shapeCasts_S64_S64x1) r)
    (broadcast S64x1 (Scalar.ofBits .f32 0x3B124925#32))

/-- The exponent field of a token's ratio, by counting the powers of two not above it, with the fields 0 and 255 replaced by 126. -/
def field (z : FVec F S64x1 .f32) : IVec S64x1 32 :=
  let power : FVec F S64x256 .f32 := bitcastToFloat .f32 (shli (iota .tc S64x256 32 [1] iota_S64x256_d1_w32) (broadcast S64x256 23#32))
  let le : IVec S64x256 32 := select (cmpf .olt (broadcastTo S64x256 z broadcasts_S64x1_S64x256) power) (broadcast S64x256 0#32) (broadcast S64x256 1#32)
  let e : IVec S64x1 32 := subi (shapeCast S64x1 (multiReductionI .add [1] S64 le 0#32 reduces_S64x256_S64 rfl) shapeCasts_S64_S64x1) (broadcast S64x1 1#32)
  select (ori (cmpi .eq e (broadcast S64x1 0#32)) (cmpi .eq e (broadcast S64x1 255#32))) (broadcast S64x1 126#32) e

/-- The power of two a token is divided by. -/
def yScale (e : IVec S64x1 32) : FVec F S64x1 .f32 :=
  bitcastToFloat .f32 (shli (addi e (broadcast S64x1 1#32)) (broadcast S64x1 23#32))

/-- What a token's residual is multiplied by before the gain, smaller by the factor that the gain carries. -/
def codeScale (r : FVec F S64x1 .f32) (e : IVec S64x1 32) : FVec F S64x1 .f32 :=
  mulf (mulf r (broadcast S64x1 (Scalar.ofBits .f32 0x37800000#32)))
    (bitcastToFloat .f32 (shli (maxsi (subi (broadcast S64x1 253#32) e) (broadcast S64x1 0#32)) (broadcast S64x1 23#32)))

/-- The codes of a block, as they are stored. -/
def codeBlock (c : FVec F S64x1 .f32) (r : Vec F S1x64x256 .bf16) (g : Vec F S1x256 .f32) : FVec F S1x64x256 .fp8e4m3 :=
  let rf : FVec F S64x256 .f32 := extf .f32 (shapeCast S64x256 r shapeCasts_S1x64x256_S64x256) bitsLt_bf16_f32
  let gs : FVec F S1x256 .f32 := mulf (shapeCast S1x256 g shapeCasts_S1x256_S1x256) (broadcast S1x256 (Scalar.ofBits .f32 0x47800000#32))
  let y : FVec F S64x256 .f32 := mulf (mulf rf (broadcastTo S64x256 c broadcasts_S64x1_S64x256)) (broadcastTo S64x256 gs broadcasts_S1x256_S64x256)
  let q : FVec F S64x256 .f32 := minimumf (broadcast S64x256 (Scalar.ofBits .f32 0x43E00000#32)) (maximumf (broadcast S64x256 (Scalar.ofBits .f32 0xC3E00000#32)) y)
  shapeCast S1x64x256 (truncf .fp8e4m3 q bitsLt_fp8e4m3_f32) shapeCasts_S64x256_S1x64x256

/-- The 128 powers of two of a block of tokens as one row: the diagonal of the matrix that has them as its columns, summed. -/
def scaleRow (y₀ y₁ : FVec F S64x1 .f32) : FVec F S1x128 .f32 :=
  let col : FVec F S128x1 .f32 := concatenate S128x1 0 [⟨S64x1, y₀⟩, ⟨S64x1, y₁⟩] concatenates_S64x1_S64x1_S128x1_d0
  let ys : FVec F S128x128 .f32 := broadcastTo S128x128 (shapeCast S128x1 col shapeCasts_S128x1_S128x1) broadcasts_S128x1_S128x128
  let diag : IVec S128x128 1 := cmpi .eq (iota .tc S128x128 32 [0] iota_S128x128_d0_w32) (iota .tc S128x128 32 [1] iota_S128x128_d1_w32)
  shapeCast S1x128 (multiReduction .add [0] S128 (select diag ys (broadcast S128x128 (Scalar.ofBits .f32 0x00000000#32))) 0x00000000#32 reduces_S128x128_S128 (.inl rfl) rfl)
    shapeCasts_S128_S1x128

/-! ## The windows of a step -/

theorem inb_part (h : Fin 2) (n : Fin 28) (j : Fin 2) : ∀ a, (![0, 64 * h.val, 0, 256 * n.val + 128 * j.val] : Fin 4 → Nat) a + S1x64x4x128.size a ≤ S1x128x4x7168.size a := by
  have := h.isLt; have := n.isLt; have := j.isLt
  intro a; fin_cases a <;> simp [Matrix.cons_val, Shape.size] <;> omega

theorem inb_tile (h : Fin 2) (n : Fin 28) : ∀ a, (![0, 64 * h.val, 256 * n.val] : Fin 3 → Nat) a + S1x64x256.size a ≤ S1x128x7168.size a := by
  have := h.isLt; have := n.isLt
  intro a; fin_cases a <;> simp [Matrix.cons_val, Shape.size] <;> omega

theorem inb_row (n : Fin 28) : ∀ a, (![0, 256 * n.val] : Fin 2 → Nat) a + S1x256.size a ≤ S1x7168.size a := by
  have := n.isLt
  intro a; fin_cases a <;> simp [Matrix.cons_val, Shape.size] <;> omega

/-- The codes of half `h` in 128 columns: half `j` of column block `n`. -/
abbrev partRect (h : Fin 2) (n : Fin 28) (j : Fin 2) : Rect S1x128x4x7168 := Rect.unit (s := S1x128x4x7168) ![0, 64 * h.val, 0, 256 * n.val + 128 * j.val] S1x64x4x128.size (inb_part h n j)
/-- The 64 tokens of half `h` in the 256 columns of block `n`. -/
abbrev tileRect (h : Fin 2) (n : Fin 28) : Rect S1x128x7168 := Rect.unit (s := S1x128x7168) ![0, 64 * h.val, 256 * n.val] S1x64x256.size (inb_tile h n)
/-- The 256 columns of block `n` of a row. -/
abbrev rowRect (n : Fin 28) : Rect S1x7168 := Rect.unit (s := S1x7168) ![0, 256 * n.val] S1x256.size (inb_row n)

theorem packed_bf16 (h : Fin 2) (n : Fin 28) : (tileRect h n).PackedRows (EltTy.packing .bf16) := by
  revert h n; decide +kernel
theorem packed_fp8 (h : Fin 2) (n : Fin 28) : (tileRect h n).PackedRows (EltTy.packing .fp8e4m3) := by
  revert h n; decide +kernel

/-! ## The steps -/

variable (arg2 : Memref sig .tc .vmem S1x128x4x7168 .fp8e4m3) (harg2 : arg2.IsWhole) (arg3 : Memref sig .tc .vmem S1x4x128 .f32) (harg3 : arg3.IsWhole)
  (arg4 : Memref sig .tc .vmem S1x7168 .f32) (harg4 : arg4.IsWhole) (arg5 : Memref sig .tc .vmem S1x128x7168 .bf16) (harg5 : arg5.IsWhole)
  (arg6 : Memref sig .tc .vmem S1x7168 .f32) (harg6 : arg6.IsWhole) (arg7 : Memref sig .tc .vmem S1x128x7168 .bf16) (harg7 : arg7.IsWhole)
  (arg8 : Memref sig .tc .vmem S1x128x7168 .fp8e4m3) (harg8 : arg8.IsWhole) (arg9 : Memref sig .tc .vmem S3x2048 .f32) (harg9 : arg9.IsWhole)

/-- Column block `n` of the first pass over half `h`: store the residual, carry the two accumulators on. -/
def step1 (h : Fin 2) (n : Fin 28) (s : FVec F S64x256 .bf16) (acc : FVec F S64x128 .f32 × FVec F S64x128 .f32) :
    Prog (TpuEff nD τ sig (Elt F) Λ₀ .tc) (FVec F S64x128 .f32 × FVec F S64x128 .f32) := do
  let a : Vec F S1x64x4x128 .fp8e4m3 ← Prog.lift (.load arg2 (partRect h n 0).toLoadRect (View.loadsAt_vmem h_S1x64x4x128))
  let b : Vec F S1x64x4x128 .fp8e4m3 ← Prog.lift (.load arg2 (partRect h n 1).toLoadRect (View.loadsAt_vmem h_S1x64x4x128))
  let x : Vec F S1x64x256 .bf16 ← Prog.lift (.load arg5 (tileRect h n).toLoadRect (View.loadsAt_vmem h_S1x64x256))
  let bi : Vec F S1x256 .f32 ← Prog.lift (.load arg4 (rowRect n).toLoadRect (View.loadsAt_vmem h_S1x256))
  let _ : Vec F S1x64x256 .bf16 ← Prog.lift (.load arg7 (tileRect h n).toLoadRect (View.loadsAt_vmem h_S1x64x256))
  Prog.lift (.store arg7 (tileRect h n) (stored (resBlock s a b x bi)) Finset.univ (View.stores_vmem h_S1x64x256 (harg7.storeExact_slice rfl _ (packed_bf16 h n)) (fun _ => rfl)) (.inl rfl))
  let g : Vec F S1x256 .f32 ← Prog.lift (.load arg6 (rowRect n).toLoadRect (View.loadsAt_vmem h_S1x256))
  pure (ssqStep acc.1 (resBlock s a b x bi), amaxStep acc.2 (resBlock s a b x bi) g)

/-- Column block `n` of the second pass over half `h`: quantize the residual. -/
def step2 (h : Fin 2) (n : Fin 28) (c : FVec F S64x1 .f32) : Prog (TpuEff nD τ sig (Elt F) Λ₀ .tc) PUnit := do
  let r : Vec F S1x64x256 .bf16 ← Prog.lift (.load arg7 (tileRect h n).toLoadRect (View.loadsAt_vmem h_S1x64x256))
  let g : Vec F S1x256 .f32 ← Prog.lift (.load arg6 (rowRect n).toLoadRect (View.loadsAt_vmem h_S1x256))
  let _ : Vec F S1x64x256 .fp8e4m3 ← Prog.lift (.load arg8 (tileRect h n).toLoadRect (View.loadsAt_vmem h_S1x64x256))
  Prog.lift (.store arg8 (tileRect h n) (codeBlock c r g) Finset.univ (View.stores_vmem h_S1x64x256 (harg8.storeExact_slice rfl _ (packed_fp8 h n)) (fun _ => rfl)) (.inl rfl))

/-- The first pass from column block `n` on, `k` blocks of it. -/
def pass1 (h : Fin 2) (s : FVec F S64x256 .bf16) : (k n : Nat) → n + k ≤ 28 → FVec F S64x128 .f32 × FVec F S64x128 .f32 →
    Prog (TpuEff nD τ sig (Elt F) Λ₀ .tc) (FVec F S64x128 .f32 × FVec F S64x128 .f32)
  | 0, _, _, acc => pure acc
  | k + 1, n, hn, acc => do
    let acc' ← step1 arg2 arg4 arg5 arg6 arg7 harg7 h ⟨n, by omega⟩ s acc
    pass1 h s k (n + 1) (by omega) acc'

/-- The second pass from column block `n` on, `k` blocks of it. -/
def pass2 (h : Fin 2) (c : FVec F S64x1 .f32) : (k n : Nat) → n + k ≤ 28 → Prog (TpuEff nD τ sig (Elt F) Λ₀ .tc) PUnit
  | 0, _, _ => pure ⟨⟩
  | k + 1, n, hn => do
    step2 arg6 arg7 arg8 harg8 h ⟨n, by omega⟩ c
    pass2 h c k (n + 1) (by omega)

/-- The accumulators before the first block. -/
def acc₀ : FVec F S64x128 .f32 × FVec F S64x128 .f32 :=
  (broadcast S64x128 (Scalar.ofBits .f32 0x00000000#32), broadcast S64x128 (Scalar.ofBits .f32 0x00000000#32))

/-- One half: both passes; it returns the powers of two of its tokens. -/
def half (h : Fin 2) (v : Vec F S1x4x128 .f32) : Prog (TpuEff nD τ sig (Elt F) Λ₀ .tc) (FVec F S64x1 .f32) := do
  let acc ← pass1 arg2 arg4 arg5 arg6 arg7 harg7 h (scaleMat h v) 28 0 (by omega) acc₀
  pass2 arg6 arg7 arg8 harg8 h (codeScale (rstd acc.1) (field (ratio acc.2 (rstd acc.1)))) 28 0 (by omega)
  pure (yScale (field (ratio acc.2 (rstd acc.1))))

/-- The whole body: the two halves, then the row of scales into the row of the result that the grid names. -/
def body (i : grid0.Coords) : Prog (TpuEff nD τ sig (Elt F) Λ₀ .tc) PUnit := do
  let v : Vec F S1x4x128 .f32 ← Prog.lift (.load arg3 (Rect.unit (s := S1x4x128) ![0, 0, 0] S1x4x128.size inb_S1x4x128_S1x4x128_0_0_0).toLoadRect (View.loadsAt_vmem h_S1x4x128))
  let y₀ ← half arg2 arg4 arg5 arg6 arg7 harg7 arg8 harg8 0 v
  let y₁ ← half arg2 arg4 arg5 arg6 arg7 harg7 arg8 harg8 1 v
  if k0_h1 : k0_cond1 i = 1#1 then do
    let _ : Vec F S1x128 .f32 ← Prog.lift (.load arg9 (Rect.unit (s := S3x2048) (k0_off1 i) S1x128.size (k0_off1_inb i k0_h1)).toLoadRect (View.loadsAt_vmem h_S1x128))
    Prog.lift (.store arg9 (Rect.unit (s := S3x2048) (k0_off1 i) S1x128.size (k0_off1_inb i k0_h1)) (scaleRow y₀ y₁) Finset.univ (View.stores_vmem_bits_univ h_S1x128 rfl) (.inl rfl))
    pure ⟨⟩
  else do
    pure ⟨⟩
  if k0_h2 : k0_cond2 i = 1#1 then do
    let _ : Vec F S1x128 .f32 ← Prog.lift (.load arg9 (Rect.unit (s := S3x2048) (k0_off2 i) S1x128.size (k0_off2_inb i k0_h2)).toLoadRect (View.loadsAt_vmem h_S1x128))
    Prog.lift (.store arg9 (Rect.unit (s := S3x2048) (k0_off2 i) S1x128.size (k0_off2_inb i k0_h2)) (scaleRow y₀ y₁) Finset.univ (View.stores_vmem_bits_univ h_S1x128 rfl) (.inl rfl))
    pure ⟨⟩
  else do
    pure ⟨⟩
  if k0_h3 : k0_cond3 i = 1#1 then do
    let _ : Vec F S1x128 .f32 ← Prog.lift (.load arg9 (Rect.unit (s := S3x2048) (k0_off3 i) S1x128.size (k0_off3_inb i k0_h3)).toLoadRect (View.loadsAt_vmem h_S1x128))
    Prog.lift (.store arg9 (Rect.unit (s := S3x2048) (k0_off3 i) S1x128.size (k0_off3_inb i k0_h3)) (scaleRow y₀ y₁) Finset.univ (View.stores_vmem_bits_univ h_S1x128 rfl) (.inl rfl))
    pure ⟨⟩
  else do
    pure ⟨⟩
  pure ⟨⟩

end Cert.KernelIdeal.Hand

end
-- ==== Proof.Steps.lean ====
/-
  What the loop of `Body` does to memory: a load and a store on a buffer read as an array, one column block of each pass, and the two
  passes and the body by induction from these.
-/
module

public import proofs.«01_k».proof.Proof.Body
public import Idealize.ShloMosaic.Lib.Pipeline.FrameBody
public import Idealize.ShloMosaic.Lib.Writes
public import Idealize.ShloMosaic.Lib.Ring
public import Idealize.ShloMosaic.Lib.Tactic
public import Idealize.ShloMosaic.Lib.ValueIdxCore

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- What a load through the rectangle `r` reads of an array. -/
abbrev ld {s : Shape} {e : EltTy} (X : Vec F s e) (r : Rect s) : Vec F r.shape e := fun x => X (r.emb x)

/-- The array `Y` is `X` with `w` stored through the rectangle `r`. -/
def Stored {s : Shape} {e : EltTy} (X : Vec F s e) (r : Rect s) (w : Vec F r.shape e) (Y : Vec F s e) : Prop :=
  (∀ x, Y (r.emb x) = w x) ∧ ∀ y, y ∉ r.set → Y y = X y

section Access

variable {c : Dev nD} {E : Set ℕ} {α : Type} {s : Shape} {e : EltTy} {m : Memref sig .tc .vmem s e} {r : Rect s}

local notation "run" => wp frame (wpE (defs₀ (F := F)) Variants.none (c : Thread nD τ) none)

/-- A load continues at what the array holds there. -/
theorem wp_ld {hl : m.view.LoadsAt r.toLoadRect} {k : Vec F r.shape e → Prog (TpuEff nD τ sig (Elt F) Λ₀ .tc) α} {Q : α → sProp 𝕄} (X : Vec F s e) :
    (owns (c : Thread nD τ) m fullShare X : sProp 𝕄)
      ⊢ iprop((owns (c : Thread nD τ) m fullShare X -∗ run E (k (ld X r)) Q) -∗ run E (.op (.load m r.toLoadRect hl) k) Q) := by
  unfold owns
  iintro ⟨%f, %hf, H⟩ Hk
  subst hf
  iapply wp_load_rect Variants.none (c : Thread nD τ) none E (m := m) (hl := hl) (k := k) (Q := Q) (f := f) (q := fullShare) (S := m.view.set) (m.view.set_slice_subset r) $$ H
  iintro H
  iapply Hk
  iexists f
  isplitr; · ipureintro; rfl
  iexact H

/-- A store continues at an array that has the payload stored. -/
theorem wp_st {w : Vec F r.shape e} {hx : (m.access r).Stores Finset.univ} {hm : Finset.univ = Finset.univ ∨ ∀ a, r.stride a = 1}
    {k : PUnit → Prog (TpuEff nD τ sig (Elt F) Λ₀ .tc) α} {Q : α → sProp 𝕄} (X : Vec F s e) :
    (owns (c : Thread nD τ) m fullShare X : sProp 𝕄)
      ⊢ iprop((∀ Y, ⌜Stored X r w Y⌝ -∗ owns (c : Thread nD τ) m fullShare Y -∗ run E (k ⟨⟩) Q) -∗ run E (.op (.store m r w Finset.univ hx hm) k) Q) := by
  unfold owns
  iintro ⟨%f, %hf, H⟩ Hk
  subst hf
  iapply wp_store_writes₀ Variants.none (c : Thread nD τ) none E (m := m) (w := w) (hx := hx) (hm := hm) (k := k) (Q := Q) (f := f) (S := m.view.set) (m.view.set_slice_subset r) $$ H
  iintro H
  ispecialize Hk $$ %(m.view.read (Elt F) (m.view.writes (Elt F) f [⟨r, w⟩]))
  ispecialize Hk $$ %(⟨fun x => View.read_writes_cons_emb _ _ r w [] x, fun y hy =>
    View.read_writes_apply_of_forall_not_mem _ _ y [⟨r, w⟩] (by simpa using hy)⟩ : Stored (m.view.read (Elt F) f) r w (m.view.read (Elt F) (m.view.writes (Elt F) f [⟨r, w⟩])))
  iapply Hk
  iexists _
  isplitr; · ipureintro; rfl
  iexact H

end Access

/-! ## Arrays filled tile by tile -/

section Tiles

variable {e : EltTy}

/-- The first `m` tiles of `Y`, the halves in order and in each the column blocks in order, hold `G`. -/
def Done (G : Fin 2 → Fin 28 → Vec F S1x64x256 e) (m : ℕ) (Y : Vec F S1x128x7168 e) : Prop :=
  ∀ (h : Fin 2) (n : Fin 28), 28 * h.val + n.val < m → ∀ x : S1x64x256.Idx, Y ((tileRect h n).emb x) = G h n x

/-- The array whose tiles are `G`. -/
def assemble (G : Fin 2 → Fin 28 → Vec F S1x64x256 e) : Vec F S1x128x7168 e := fun y =>
  G ⟨(y 1).val / 64, Nat.div_lt_of_lt_mul (y 1).isLt⟩ ⟨(y 2).val / 256, Nat.div_lt_of_lt_mul (y 2).isLt⟩
    (ValueIdx.ix3 (y 0) ⟨(y 1).val % 64, Nat.mod_lt _ (by decide)⟩ ⟨(y 2).val % 256, Nat.mod_lt _ (by decide)⟩)

theorem tile_emb (h : Fin 2) (n : Fin 28) (x : S1x64x256.Idx) (a : Fin 3) :
    ((tileRect h n).emb x a).val = (![0, 64 * h.val, 256 * n.val] : Fin 3 → ℕ) a + (x a).val := by
  show (![0, 64 * h.val, 256 * n.val] : Fin 3 → ℕ) a + 1 * (x a).val = _
  rw [one_mul]

theorem mem_tile {h : Fin 2} {n : Fin 28} {y : S1x128x7168.Idx} (hy : y ∈ (tileRect h n).set) : (y 1).val / 64 = h.val ∧ (y 2).val / 256 = n.val := by
  rw [Rect.mem_set_unit] at hy
  obtain ⟨a, b⟩ := hy 1
  obtain ⟨c, d⟩ := hy 2
  simp only [Matrix.cons_val] at a b c d
  change _ < 64 * h.val + 64 at b
  change _ < 256 * n.val + 256 at d
  exact ⟨by omega, by omega⟩

theorem Done.zero (G : Fin 2 → Fin 28 → Vec F S1x64x256 e) (Y : Vec F S1x128x7168 e) : Done G 0 Y := fun _ _ h => absurd h (Nat.not_lt_zero _)

theorem Done.mono {G : Fin 2 → Fin 28 → Vec F S1x64x256 e} {m k : ℕ} {Y : Vec F S1x128x7168 e} (hY : Done G m Y) (hk : k ≤ m) : Done G k Y :=
  fun h n hn => hY h n (lt_of_lt_of_le hn hk)

/-- A stored tile extends what is done by one. -/
theorem Done.step {G : Fin 2 → Fin 28 → Vec F S1x64x256 e} {h : Fin 2} {n : Fin 28} {Y Y' : Vec F S1x128x7168 e}
    (hY : Done G (28 * h.val + n.val) Y) (hs : Stored Y (tileRect h n) (G h n) Y') : Done G (28 * h.val + n.val + 1) Y' := by
  intro h' n' hlt x
  by_cases he : 28 * h'.val + n'.val = 28 * h.val + n.val
  · have hn := n.isLt
    have hn' := n'.isLt
    obtain rfl : h' = h := Fin.ext (by omega)
    obtain rfl : n' = n := Fin.ext (by omega)
    exact hs.1 x
  · rw [hs.2 _ fun hm => ?_]
    · exact hY h' n' (by omega) x
    · obtain ⟨a, b⟩ := mem_tile hm
      have h1 := tile_emb h' n' x 1
      have h2 := tile_emb h' n' x 2
      have x1 : (x 1).val < 64 := (x 1).isLt
      have x2 : (x 2).val < 256 := (x 2).isLt
      simp only [Matrix.cons_val] at h1 h2
      omega

/-- With every tile done the array is the assembled one. -/
theorem Done.eq {G : Fin 2 → Fin 28 → Vec F S1x64x256 e} {Y : Vec F S1x128x7168 e} (hY : Done G 56 Y) : Y = assemble G := by
  funext y
  have y1 : (y 1).val < 128 := (y 1).isLt
  have y2 : (y 2).val < 7168 := (y 2).isLt
  have := hY ⟨(y 1).val / 64, Nat.div_lt_of_lt_mul (y 1).isLt⟩ ⟨(y 2).val / 256, Nat.div_lt_of_lt_mul (y 2).isLt⟩ (by simp only; omega)
    (ValueIdx.ix3 (y 0) ⟨(y 1).val % 64, Nat.mod_lt _ (by decide)⟩ ⟨(y 2).val % 256, Nat.mod_lt _ (by decide)⟩)
  unfold assemble
  rw [← this]
  congr 1
  funext a
  apply Fin.ext
  rw [tile_emb]
  fin_cases a
  · simp [ValueIdx.ix3]
  · simp only [ValueIdx.ix3, Matrix.cons_val]; exact (Nat.div_add_mod _ _).symm
  · simp only [ValueIdx.ix3, Matrix.cons_val]; exact (Nat.div_add_mod _ _).symm

end Tiles

/-! ## One column block -/

section Step

variable (arg2 : Memref sig .tc .vmem S1x128x4x7168 .fp8e4m3) (arg3 : Memref sig .tc .vmem S1x4x128 .f32)
  (arg4 : Memref sig .tc .vmem S1x7168 .f32) (arg5 : Memref sig .tc .vmem S1x128x7168 .bf16)
  (arg6 : Memref sig .tc .vmem S1x7168 .f32) (arg7 : Memref sig .tc .vmem S1x128x7168 .bf16) (harg7 : arg7.IsWhole)
  (arg8 : Memref sig .tc .vmem S1x128x7168 .fp8e4m3) (harg8 : arg8.IsWhole) (arg9 : Memref sig .tc .vmem S3x2048 .f32)
  (x0 : Vec F S1x128x4x7168 .fp8e4m3) (x1 : Vec F S1x4x128 .f32) (x2 : Vec F S1x7168 .f32) (x3 : Vec F S1x128x7168 .bf16) (x4 : Vec F S1x7168 .f32)
  (c : Dev nD) (E : Set ℕ)

local notation "run" => wp frame (wpE (defs₀ (F := F)) Variants.none (c : Thread nD τ) none)

/-- The residual of a tile, of the blocks the body is given. -/
def res (h : Fin 2) (n : Fin 28) : FVec F S64x256 .bf16 :=
  resBlock (scaleMat h x1) (ld x0 (partRect h n 0)) (ld x0 (partRect h n 1)) (ld x3 (tileRect h n)) (ld x2 (rowRect n))

/-- The accumulators of half `h` before column block `n`. -/
def accs (h : Fin 2) : ℕ → FVec F S64x128 .f32 × FVec F S64x128 .f32
  | 0 => acc₀
  | n + 1 => if hn : n < 28 then
      (ssqStep (accs h n).1 (res x0 x1 x2 x3 h ⟨n, hn⟩), amaxStep (accs h n).2 (res x0 x1 x2 x3 h ⟨n, hn⟩) (ld x4 (rowRect ⟨n, hn⟩)))
    else accs h n

/-- The inputs' buffers, at the blocks the body is given. -/
def inputs : sProp 𝕄 :=
  iprop(owns (c : Thread nD τ) arg2 fullShare x0 ∗ owns (c : Thread nD τ) arg4 fullShare x2 ∗ owns (c : Thread nD τ) arg5 fullShare x3 ∗ owns (c : Thread nD τ) arg6 fullShare x4)

theorem step1_spec (h : Fin 2) (n : ℕ) (hn : n < 28) (Y : Vec F S1x128x7168 .bf16) (Q : FVec F S64x128 .f32 × FVec F S64x128 .f32 → sProp 𝕄) :
    iprop(inputs arg2 arg4 arg5 arg6 x0 x2 x3 x4 c ∗ owns (c : Thread nD τ) arg7 fullShare Y
      ∗ (∀ Y', ⌜Stored Y (tileRect h ⟨n, hn⟩) (stored (res x0 x1 x2 x3 h ⟨n, hn⟩)) Y'⌝ -∗
          (inputs arg2 arg4 arg5 arg6 x0 x2 x3 x4 c ∗ owns (c : Thread nD τ) arg7 fullShare Y') -∗ Q (accs x0 x1 x2 x3 x4 h (n + 1))))
      ⊢ run E (step1 arg2 arg4 arg5 arg6 arg7 harg7 h ⟨n, hn⟩ (scaleMat h x1) (accs x0 x1 x2 x3 x4 h n)) Q := by
  rw [show accs x0 x1 x2 x3 x4 h (n + 1) = _ from dif_pos hn]
  unfold step1 inputs res
  simp only [Prog.bind_lift, bind_assoc]
  iintro ⟨⟨H0, H2, H3, H4⟩, H5, Hk⟩
  iapply wp_ld x0 $$ H0; iintro H0
  iapply wp_ld x0 $$ H0; iintro H0
  iapply wp_ld x3 $$ H3; iintro H3
  iapply wp_ld x2 $$ H2; iintro H2
  iapply wp_ld Y $$ H5; iintro H5
  iapply wp_st Y $$ H5; iintro %Y' %hY H5
  iapply wp_ld x4 $$ H4; iintro H4
  iapply le_wp_ret
  ispecialize Hk $$ %Y' %hY
  iapply Hk
  isplitr [H5]
  · isplitl [H0]; · iexact H0
    isplitl [H2]; · iexact H2
    isplitl [H3]; · iexact H3
    iexact H4
  iexact H5

/-- The stored residual tiles. -/
def resTile (h : Fin 2) (n : Fin 28) : Vec F S1x64x256 .bf16 := stored (res x0 x1 x2 x3 h n)

/-- The exponent fields of the tokens of half `h`. -/
def fields (h : Fin 2) : IVec S64x1 32 := field (ratio (accs x0 x1 x2 x3 x4 h 28).2 (rstd (accs x0 x1 x2 x3 x4 h 28).1))

/-- The stored code tiles. -/
def codeTile (h : Fin 2) (n : Fin 28) : Vec F S1x64x256 .fp8e4m3 :=
  codeBlock (codeScale (rstd (accs x0 x1 x2 x3 x4 h 28).1) (fields x0 x1 x2 x3 x4 h)) (resTile x0 x1 x2 x3 h n) (ld x4 (rowRect n))

theorem step2_spec (h : Fin 2) (n : Fin 28) (Y : Vec F S1x128x7168 .bf16) (hY : Done (resTile x0 x1 x2 x3) (28 * h.val + 28) Y) (Z : Vec F S1x128x7168 .fp8e4m3)
    (Q : PUnit → sProp 𝕄) :
    iprop(owns (c : Thread nD τ) arg6 fullShare x4 ∗ owns (c : Thread nD τ) arg7 fullShare Y ∗ owns (c : Thread nD τ) arg8 fullShare Z
      ∗ (∀ Z', ⌜Stored Z (tileRect h n) (codeTile x0 x1 x2 x3 x4 h n) Z'⌝ -∗
          (owns (c : Thread nD τ) arg6 fullShare x4 ∗ owns (c : Thread nD τ) arg7 fullShare Y ∗ owns (c : Thread nD τ) arg8 fullShare Z') -∗ Q ⟨⟩))
      ⊢ run E (step2 arg6 arg7 arg8 harg8 h n (codeScale (rstd (accs x0 x1 x2 x3 x4 h 28).1) (fields x0 x1 x2 x3 x4 h))) Q := by
  have hr : (ld Y (tileRect h n) : Vec F S1x64x256 .bf16) = resTile x0 x1 x2 x3 h n := funext fun x => hY h n (by have := n.isLt; omega) x
  unfold step2 codeTile
  simp only [Prog.bind_lift, bind_assoc]
  iintro ⟨H4, H5, H6, Hk⟩
  iapply wp_ld Y $$ H5; iintro H5
  iapply wp_ld x4 $$ H4; iintro H4
  iapply wp_ld Z $$ H6; iintro H6
  rw [hr]
  iapply wp_st Z $$ H6; iintro %Z' %hZ H6
  iapply le_wp_ret
  ispecialize Hk $$ %Z' %hZ
  iapply Hk
  isplitl [H4]; · iexact H4
  isplitl [H5]; · iexact H5
  iexact H6

/-! ## The passes -/

theorem pass1_spec (h : Fin 2) (Q : FVec F S64x128 .f32 × FVec F S64x128 .f32 → sProp 𝕄) : ∀ (k n : ℕ) (hn : n + k ≤ 28) (Y : Vec F S1x128x7168 .bf16),
    Done (resTile x0 x1 x2 x3) (28 * h.val + n) Y →
    iprop(inputs arg2 arg4 arg5 arg6 x0 x2 x3 x4 c ∗ owns (c : Thread nD τ) arg7 fullShare Y
      ∗ (∀ Y', ⌜Done (resTile x0 x1 x2 x3) (28 * h.val + (n + k)) Y'⌝ -∗
          (inputs arg2 arg4 arg5 arg6 x0 x2 x3 x4 c ∗ owns (c : Thread nD τ) arg7 fullShare Y') -∗ Q (accs x0 x1 x2 x3 x4 h (n + k))))
      ⊢ run E (pass1 arg2 arg4 arg5 arg6 arg7 harg7 h (scaleMat h x1) k n hn (accs x0 x1 x2 x3 x4 h n)) Q := by
  intro k
  induction k with
  | zero =>
    intro n hn Y hY
    iintro ⟨H, H5, Hk⟩
    unfold pass1
    iapply le_wp_ret
    ispecialize Hk $$ %Y %hY
    iapply Hk
    isplitl [H]; · iexact H
    iexact H5
  | succ k ih =>
    intro n hn Y hY
    unfold pass1
    rw [wp_bind]
    iintro ⟨H, H5, Hk⟩
    have hn' : n < 28 := by omega
    have hn'' : n + 1 + k ≤ 28 := by omega
    iapply (step1_spec arg2 arg4 arg5 arg6 arg7 harg7 x0 x1 x2 x3 x4 c E h n hn' Y _)
    isplitl [H]; · iexact H
    isplitl [H5]; · iexact H5
    iintro %Y' %hs ⟨H, H5⟩
    have hY' : Done (resTile x0 x1 x2 x3) (28 * h.val + (n + 1)) Y' := Done.step (n := ⟨n, hn'⟩) hY hs
    iapply (ih (n + 1) hn'' Y' hY')
    isplitl [H]; · iexact H
    isplitl [H5]; · iexact H5
    rw [show n + 1 + k = n + (k + 1) by omega]
    iexact Hk

theorem pass2_spec (h : Fin 2) (Y : Vec F S1x128x7168 .bf16) (hY : Done (resTile x0 x1 x2 x3) (28 * h.val + 28) Y) (Q : PUnit → sProp 𝕄) :
    ∀ (k n : ℕ) (hn : n + k ≤ 28) (Z : Vec F S1x128x7168 .fp8e4m3), Done (codeTile x0 x1 x2 x3 x4) (28 * h.val + n) Z →
    iprop(owns (c : Thread nD τ) arg6 fullShare x4 ∗ owns (c : Thread nD τ) arg7 fullShare Y ∗ owns (c : Thread nD τ) arg8 fullShare Z
      ∗ (∀ Z', ⌜Done (codeTile x0 x1 x2 x3 x4) (28 * h.val + (n + k)) Z'⌝ -∗
          (owns (c : Thread nD τ) arg6 fullShare x4 ∗ owns (c : Thread nD τ) arg7 fullShare Y ∗ owns (c : Thread nD τ) arg8 fullShare Z') -∗ Q ⟨⟩))
      ⊢ run E (pass2 arg6 arg7 arg8 harg8 h (codeScale (rstd (accs x0 x1 x2 x3 x4 h 28).1) (fields x0 x1 x2 x3 x4 h)) k n hn) Q := by
  intro k
  induction k with
  | zero =>
    intro n hn Z hZ
    iintro ⟨H4, H5, H6, Hk⟩
    unfold pass2
    iapply le_wp_ret
    ispecialize Hk $$ %Z %hZ
    iapply Hk
    isplitl [H4]; · iexact H4
    isplitl [H5]; · iexact H5
    iexact H6
  | succ k ih =>
    intro n hn Z hZ
    unfold pass2
    rw [wp_bind]
    iintro ⟨H4, H5, H6, Hk⟩
    have hn' : n < 28 := by omega
    have hn'' : n + 1 + k ≤ 28 := by omega
    iapply (step2_spec arg6 arg7 arg8 harg8 x0 x1 x2 x3 x4 c E h ⟨n, hn'⟩ Y hY Z _)
    isplitl [H4]; · iexact H4
    isplitl [H5]; · iexact H5
    isplitl [H6]; · iexact H6
    iintro %Z' %hs ⟨H4, H5, H6⟩
    have hZ' : Done (codeTile x0 x1 x2 x3 x4) (28 * h.val + (n + 1)) Z' := Done.step (n := ⟨n, hn'⟩) hZ hs
    iapply (ih (n + 1) hn'' Z' hZ')
    isplitl [H4]; · iexact H4
    isplitl [H5]; · iexact H5
    isplitl [H6]; · iexact H6
    rw [show n + 1 + k = n + (k + 1) by omega]
    iexact Hk

/-- One half. -/
theorem half_spec (h : Fin 2) (Y : Vec F S1x128x7168 .bf16) (Z : Vec F S1x128x7168 .fp8e4m3) (hY : Done (resTile x0 x1 x2 x3) (28 * h.val) Y)
    (hZ : Done (codeTile x0 x1 x2 x3 x4) (28 * h.val) Z) (Q : FVec F S64x1 .f32 → sProp 𝕄) :
    iprop(inputs arg2 arg4 arg5 arg6 x0 x2 x3 x4 c ∗ owns (c : Thread nD τ) arg7 fullShare Y ∗ owns (c : Thread nD τ) arg8 fullShare Z
      ∗ (∀ Y' Z', ⌜Done (resTile x0 x1 x2 x3) (28 * h.val + 28) Y' ∧ Done (codeTile x0 x1 x2 x3 x4) (28 * h.val + 28) Z'⌝ -∗
          (inputs arg2 arg4 arg5 arg6 x0 x2 x3 x4 c ∗ owns (c : Thread nD τ) arg7 fullShare Y' ∗ owns (c : Thread nD τ) arg8 fullShare Z') -∗
          Q (yScale (fields x0 x1 x2 x3 x4 h))))
      ⊢ run E (half arg2 arg4 arg5 arg6 arg7 harg7 arg8 harg8 h x1) Q := by
  unfold half
  rw [wp_bind]
  iintro ⟨H, H5, H6, Hk⟩
  iapply (pass1_spec arg2 arg4 arg5 arg6 arg7 harg7 x0 x1 x2 x3 x4 c E h _ 28 0 (by omega) Y hY)
  isplitl [H]; · iexact H
  isplitl [H5]; · iexact H5
  iintro %Y' %hY' ⟨H, H5⟩
  rw [wp_bind, Nat.zero_add]
  rw [Nat.zero_add] at hY'
  unfold inputs
  icases H with ⟨H0, H2, H3, H4⟩
  iapply (pass2_spec arg6 arg7 arg8 harg8 x0 x1 x2 x3 x4 c E h Y' hY' _ 28 0 (by omega) Z hZ)
  isplitl [H4]; · iexact H4
  isplitl [H5]; · iexact H5
  isplitl [H6]; · iexact H6
  iintro %Z' %hZ' ⟨H4, H5, H6⟩
  rw [Nat.zero_add] at hZ'
  iapply le_wp_ret
  rw [show field (ratio (accs x0 x1 x2 x3 x4 h 28).2 (rstd (accs x0 x1 x2 x3 x4 h 28).1)) = fields x0 x1 x2 x3 x4 h from rfl]
  ispecialize Hk $$ %Y' %Z' %(⟨hY', hZ'⟩ : _ ∧ _)
  iapply Hk
  isplitl [H0 H2 H3 H4]
  · isplitl [H0]; · iexact H0
    isplitl [H2]; · iexact H2
    isplitl [H3]; · iexact H3
    iexact H4
  isplitl [H5]; · iexact H5
  iexact H6

end Step

end Cert.KernelIdeal.Hand

end
-- ==== Proof.Whole.lean ====
/-
  The whole body at a grid point, from the specifications of its two halves: which arrays its three result windows hold afterwards.
-/
module

public import proofs.«01_k».proof.Proof.Steps

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-- Exactly one of the three conditions on the batch index holds. -/
theorem cond_iff : ∀ i : grid0.Coords, (k0_cond1 i = 1#1 ↔ (i 0).val = 0) ∧ (k0_cond2 i = 1#1 ↔ (i 0).val = 1) ∧ (k0_cond3 i = 1#1 ↔ (i 0).val = 2) := by
  decide +kernel

theorem rowAt_inb (i : grid0.Coords) : ∀ a, (![(i 0).val, 128 * (i 1).val] : Fin 2 → ℕ) a + S1x128.size a ≤ S3x2048.size a := by
  have h0 := (i 0).isLt
  have h1 := (i 1).isLt
  change (i 0).val < 3 at h0
  change (i 1).val < 16 at h1
  intro a
  fin_cases a
  · show (i 0).val + 1 ≤ 3; omega
  · show 128 * (i 1).val + 128 ≤ 2048; omega

/-- Where grid point `i` puts its row of scales. -/
abbrev rowAt (i : grid0.Coords) : Rect S3x2048 := Rect.unit (s := S3x2048) ![(i 0).val, 128 * (i 1).val] S1x128.size (rowAt_inb i)

theorem stored_congr {off off' : Fin 2 → ℕ} (h : off = off') (hi : ∀ a, off a + S1x128.size a ≤ S3x2048.size a) (hi' : ∀ a, off' a + S1x128.size a ≤ S3x2048.size a)
    {X Y : Vec F S3x2048 .f32} {w : Vec F S1x128 .f32} (hs : Stored X (Rect.unit (s := S3x2048) off S1x128.size hi) w Y) :
    Stored X (Rect.unit (s := S3x2048) off' S1x128.size hi') w Y := by
  subst h; exact hs

local notation "𝕄" => MT nD τ sig Unit (Elt F) ℕ (UR sig nD τ) ℕ

section Body
variable (arg2 : Memref sig .tc .vmem S1x128x4x7168 .fp8e4m3) (arg3 : Memref sig .tc .vmem S1x4x128 .f32)
  (arg4 : Memref sig .tc .vmem S1x7168 .f32) (arg5 : Memref sig .tc .vmem S1x128x7168 .bf16)
  (arg6 : Memref sig .tc .vmem S1x7168 .f32) (arg7 : Memref sig .tc .vmem S1x128x7168 .bf16) (harg7 : arg7.IsWhole)
  (arg8 : Memref sig .tc .vmem S1x128x7168 .fp8e4m3) (harg8 : arg8.IsWhole) (arg9 : Memref sig .tc .vmem S3x2048 .f32)
  (x0 : Vec F S1x128x4x7168 .fp8e4m3) (x1 : Vec F S1x4x128 .f32) (x2 : Vec F S1x7168 .f32) (x3 : Vec F S1x128x7168 .bf16) (x4 : Vec F S1x7168 .f32)
  (c : Dev nD) (E : Set ℕ)

local notation "run" => wp frame (wpE (defs₀ (F := F)) Variants.none (c : Thread nD τ) none)

/-- The row of scales of a tile of tokens. -/
def scales : Vec F S1x128 .f32 := scaleRow (yScale (fields x0 x1 x2 x3 x4 0)) (yScale (fields x0 x1 x2 x3 x4 1))

theorem ld_whole : (ld x1 (Rect.unit (s := S1x4x128) ![0, 0, 0] S1x4x128.size inb_S1x4x128_S1x4x128_0_0_0) : Vec F S1x4x128 .f32) = x1 := by
  funext x
  show x1 _ = x1 x
  congr 1
  funext a
  apply Fin.ext
  show (![0, 0, 0] : Fin 3 → ℕ) a + 1 * (x a).val = (x a).val
  fin_cases a <;> simp [Matrix.cons_val]

/-- The body at grid point `i`. -/
theorem body_spec (i : grid0.Coords) (Y : Vec F S1x128x7168 .bf16) (Z : Vec F S1x128x7168 .fp8e4m3) (W : Vec F S3x2048 .f32) (Q : PUnit → sProp 𝕄) :
    iprop(inputs arg2 arg4 arg5 arg6 x0 x2 x3 x4 c ∗ owns (c : Thread nD τ) arg3 fullShare x1 ∗ owns (c : Thread nD τ) arg7 fullShare Y
      ∗ owns (c : Thread nD τ) arg8 fullShare Z ∗ owns (c : Thread nD τ) arg9 fullShare W
      ∗ (∀ W', ⌜Stored W (rowAt i) (scales x0 x1 x2 x3 x4) W'⌝ -∗
          (inputs arg2 arg4 arg5 arg6 x0 x2 x3 x4 c ∗ owns (c : Thread nD τ) arg3 fullShare x1
            ∗ owns (c : Thread nD τ) arg7 fullShare (assemble (resTile x0 x1 x2 x3)) ∗ owns (c : Thread nD τ) arg8 fullShare (assemble (codeTile x0 x1 x2 x3 x4))
            ∗ owns (c : Thread nD τ) arg9 fullShare W') -∗ Q ⟨⟩))
      ⊢ run E (body arg2 arg3 arg4 arg5 arg6 arg7 harg7 arg8 harg8 arg9 i) Q := by
  unfold body
  simp only [Prog.bind_lift, bind_assoc]
  iintro ⟨H, H1, H5, H6, H7, Hk⟩
  iapply wp_ld x1 $$ H1; iintro H1
  rw [ld_whole]
  simp only [wp_bind]
  iapply (half_spec arg2 arg4 arg5 arg6 arg7 harg7 arg8 harg8 x0 x1 x2 x3 x4 c E 0 Y Z (Done.zero _ _) (Done.zero _ _) _)
  isplitl [H]; · iexact H
  isplitl [H5]; · iexact H5
  isplitl [H6]; · iexact H6
  iintro %Y' %Z' %hd ⟨H, H5, H6⟩
  iapply (half_spec arg2 arg4 arg5 arg6 arg7 harg7 arg8 harg8 x0 x1 x2 x3 x4 c E 1 Y' Z' hd.1 hd.2 _)
  isplitl [H]; · iexact H
  isplitl [H5]; · iexact H5
  isplitl [H6]; · iexact H6
  iintro %Y'' %Z'' %he ⟨H, H5, H6⟩
  have hY : Y'' = assemble (resTile x0 x1 x2 x3) := Done.eq he.1
  have hZ : Z'' = assemble (codeTile x0 x1 x2 x3 x4) := Done.eq he.2
  subst hY hZ
  clear hd he Y Z Y' Z'
  have hc := cond_iff i
  have hi : (i 0).val = 0 ∨ (i 0).val = 1 ∨ (i 0).val = 2 := by
    have h0 := (i 0).isLt
    change (i 0).val < 3 at h0
    omega
  have fin : ∀ W', Stored W (rowAt i) (scales x0 x1 x2 x3 x4) W' →
      iprop(inputs arg2 arg4 arg5 arg6 x0 x2 x3 x4 c ∗ owns (c : Thread nD τ) arg3 fullShare x1
            ∗ owns (c : Thread nD τ) arg7 fullShare (assemble (resTile x0 x1 x2 x3)) ∗ owns (c : Thread nD τ) arg8 fullShare (assemble (codeTile x0 x1 x2 x3 x4))
            ∗ owns (c : Thread nD τ) arg9 fullShare W'
            ∗ (∀ W', ⌜Stored W (rowAt i) (scales x0 x1 x2 x3 x4) W'⌝ -∗
          (inputs arg2 arg4 arg5 arg6 x0 x2 x3 x4 c ∗ owns (c : Thread nD τ) arg3 fullShare x1
            ∗ owns (c : Thread nD τ) arg7 fullShare (assemble (resTile x0 x1 x2 x3)) ∗ owns (c : Thread nD τ) arg8 fullShare (assemble (codeTile x0 x1 x2 x3 x4))
            ∗ owns (c : Thread nD τ) arg9 fullShare W') -∗ Q ⟨⟩)) ⊢ Q ⟨⟩ := by
    intro W' hW
    iintro ⟨H, H1, H5, H6, H7, Hk⟩
    ispecialize Hk $$ %W' %hW
    iapply Hk
    isplitl [H]; · iexact H
    isplitl [H1]; · iexact H1
    isplitl [H5]; · iexact H5
    isplitl [H6]; · iexact H6
    iexact H7
  rcases hi with h | h | h
  · have h1 : k0_cond1 i = 1#1 := hc.1.2 h
    have h2 : ¬ k0_cond2 i = 1#1 := fun e => by have := hc.2.1.1 e; omega
    have h3 : ¬ k0_cond3 i = 1#1 := fun e => by have := hc.2.2.1 e; omega
    rw [dif_pos h1, dif_neg h2, dif_neg h3]
    iapply wp_ld W $$ H7; iintro H7
    iapply wp_st W $$ H7; iintro %W' %hW H7
    iapply le_wp_ret
    iapply (fin W' (stored_congr (by rw [k0_off1_eq, h]) _ _ hW))
    isplitl [H]; · iexact H
    isplitl [H1]; · iexact H1
    isplitl [H5]; · iexact H5
    isplitl [H6]; · iexact H6
    isplitl [H7]; · iexact H7
    iexact Hk
  · have h1 : ¬ k0_cond1 i = 1#1 := fun e => by have := hc.1.1 e; omega
    have h2 : k0_cond2 i = 1#1 := hc.2.1.2 h
    have h3 : ¬ k0_cond3 i = 1#1 := fun e => by have := hc.2.2.1 e; omega
    rw [dif_neg h1, dif_pos h2, dif_neg h3]
    iapply wp_ld W $$ H7; iintro H7
    iapply wp_st W $$ H7; iintro %W' %hW H7
    iapply le_wp_ret
    iapply (fin W' (stored_congr (by rw [k0_off2_eq, h]) _ _ hW))
    isplitl [H]; · iexact H
    isplitl [H1]; · iexact H1
    isplitl [H5]; · iexact H5
    isplitl [H6]; · iexact H6
    isplitl [H7]; · iexact H7
    iexact Hk
  · have h1 : ¬ k0_cond1 i = 1#1 := fun e => by have := hc.1.1 e; omega
    have h2 : ¬ k0_cond2 i = 1#1 := fun e => by have := hc.2.1.1 e; omega
    have h3 : k0_cond3 i = 1#1 := hc.2.2.2 h
    rw [dif_neg h1, dif_neg h2, dif_pos h3]
    iapply wp_ld W $$ H7; iintro H7
    iapply wp_st W $$ H7; iintro %W' %hW H7
    iapply le_wp_ret
    iapply (fin W' (stored_congr (by rw [k0_off3_eq, h]) _ _ hW))
    isplitl [H]; · iexact H
    isplitl [H1]; · iexact H1
    isplitl [H5]; · iexact H5
    isplitl [H6]; · iexact H6
    isplitl [H7]; · iexact H7
    iexact Hk

end Body

end Cert.KernelIdeal.Hand

end
-- ==== Proof.BodyEq.lean ====
/-
  The printed body of the kernel is the loop of `Body`: both are the same list of loads and stores with the same values.
-/
module

public import proofs.«01_k».proof.Proof.Body

@[expose] public section

set_option maxRecDepth 200000
set_option maxHeartbeats 0

noncomputable section

namespace Cert.KernelIdeal.Hand

open Idealize.ShloMosaic Idealize.SL.Sem Cert.KernelIdeal Cert.KernelIdeal.Gen

variable {F : FTy → Type} [FloatOps F] [Named F]

theorem body_eq (i : grid0.Coords) (arg2 : Memref sig .tc .vmem S1x128x4x7168 .fp8e4m3) (harg2 : arg2.IsWhole) (arg3 : Memref sig .tc .vmem S1x4x128 .f32) (harg3 : arg3.IsWhole)
    (arg4 : Memref sig .tc .vmem S1x7168 .f32) (harg4 : arg4.IsWhole) (arg5 : Memref sig .tc .vmem S1x128x7168 .bf16) (harg5 : arg5.IsWhole)
    (arg6 : Memref sig .tc .vmem S1x7168 .f32) (harg6 : arg6.IsWhole) (arg7 : Memref sig .tc .vmem S1x128x7168 .bf16) (harg7 : arg7.IsWhole)
    (arg8 : Memref sig .tc .vmem S1x128x7168 .fp8e4m3) (harg8 : arg8.IsWhole) (arg9 : Memref sig .tc .vmem S3x2048 .f32) (harg9 : arg9.IsWhole) :
    cc0_recv_rmsnorm_fp8 (F := F) i arg2 harg2 arg3 harg3 arg4 harg4 arg5 harg5 arg6 harg6 arg7 harg7 arg8 harg8 arg9 harg9
      = body arg2 arg3 arg4 arg5 arg6 arg7 harg7 arg8 harg8 arg9 i := rfl

end Cert.KernelIdeal.Hand

end
-- ==== Proof.IdealRun.lean ====
/-
  The run of the kernel at exact arithmetic: every execution ends, the arguments keep their contents, the counters end at zero, and the
  three results are named: the residuals and the codes block by block, the scales as rows that accumulate in one array over the grid.
-/
module

public import proofs.«01_k».proof.Proof.Whole
public import proofs.«01_k».proof.Proof.BodyEq
public import proofs.«01_k».proof.Proof.Gen.KernelIdeal.Frame
public import Idealize.ShloMosaic.Lib.Claim
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The frame's statement from a run of any relational proof data whose arrays are the entry contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! The staging buffer of each window at a point. -/

abbrev ms0_0 (t : Fin cfg0.N) : Memref sig .tc .vmem S1x128x4x7168 .fp8e4m3 := win0_0.stage (cfg0.slots t 0)
abbrev ms0_1 (t : Fin cfg0.N) : Memref sig .tc .vmem S1x4x128 .f32 := win0_1.stage (cfg0.slots t 1)
abbrev ms0_2 (t : Fin cfg0.N) : Memref sig .tc .vmem S1x7168 .f32 := win0_2.stage (cfg0.slots t 2)
abbrev ms0_3 (t : Fin cfg0.N) : Memref sig .tc .vmem S1x128x7168 .bf16 := win0_3.stage (cfg0.slots t 3)
abbrev ms0_4 (t : Fin cfg0.N) : Memref sig .tc .vmem S1x7168 .f32 := win0_4.stage (cfg0.slots t 4)
abbrev ms0_5 (t : Fin cfg0.N) : Memref sig .tc .vmem S1x128x7168 .bf16 := win0_5.stage (cfg0.slots t 5)
abbrev ms0_6 (t : Fin cfg0.N) : Memref sig .tc .vmem S1x128x7168 .fp8e4m3 := win0_6.stage (cfg0.slots t 6)
abbrev ms0_7 (t : Fin cfg0.N) : Memref sig .tc .vmem S3x2048 .f32 := win0_7.stage (cfg0.slots t 7)

/-! ## The pipeline's proof data -/

/-- The residual tiles of grid point `t`, -/
def resAt (c : Dev nD) (t : Fin cfg0.N) : Vec F S1x128x7168 .bf16 := assemble (resTile (iblk m c 0 t) (iblk m c 1 t) (iblk m c 2 t) (iblk m c 3 t))
/-- its code tiles, -/
def codeAt (c : Dev nD) (t : Fin cfg0.N) : Vec F S1x128x7168 .fp8e4m3 :=
  assemble (codeTile (iblk m c 0 t) (iblk m c 1 t) (iblk m c 2 t) (iblk m c 3 t) (iblk m c 4 t))
/-- and its row of scales. -/
def scalesAt (c : Dev nD) (t : Fin cfg0.N) : Vec F S1x128 .f32 := scales (iblk m c 0 t) (iblk m c 1 t) (iblk m c 2 t) (iblk m c 3 t) (iblk m c 4 t)

/-- The rows of scales that are in place after point `t`: those of every point up to it. -/
def Rows (c : Dev nD) (t : Fin cfg0.N) (X : Vec F S3x2048 .f32) : Prop :=
  ∀ u : Fin cfg0.N, u.val ≤ t.val → ∀ x : S1x128.Idx, X ((rowAt (grid0.coords u)).emb x) = scalesAt m c u x

/-- The window whose contents are held to a predicate: the scales. -/
def marked : Fin 8 → Bool := fun w => w.val == 7

/-- The predicate. -/
def Rl (c : Dev nD) : (w : Fin cfg0.W) → Fin cfg0.N → ((cfg0.win w).block.Idx → Elt F (cfg0.win w).elt) → Prop
  | ⟨7, _⟩, t, X => Rows m c t X
  | _, _, _ => True

/-- The proof data: the inputs at their blocks after every point, the residuals and the codes at theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => resAt m c t
    | ⟨6, _⟩ => codeAt m c t
    | ⟨7, h⟩ => Pipeline.Dat.unnamed (cfg := cfg0) ⟨7, h⟩ t
  Φ _ := Pipeline.ΦA spec0 c
  q _ := fullShare
  owed _ := 0

/-- The proof data read relationally. -/
abbrev rdats (c : Dev nD) : RDat τ (Elt F) Unit ℕ (UR sig nD τ) ℕ cfg0 c := (dats m 0 c).toRRel marked (Rl m c)

/-- The proof data's arrays are the contents at entry. -/
theorem A_eq (c : Dev nD) (w : Fin cfg0.W) : (dats m 0 c).A w = V m c (Pipeline.arrRef spec0 w) := by
  dsimp only [dats]

/-- What the body leaves of each input. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem after0_5 (c : Dev nD) (t : Fin cfg0.N) : (dats m 0 c).after 5 t = resAt m c t := by dsimp only [dats]
theorem after0_6 (c : Dev nD) (t : Fin cfg0.N) : (dats m 0 c).after 6 t = codeAt m c t := by dsimp only [dats]

/-! ## The rows of scales -/

theorem coords_vals (t : Fin cfg0.N) : (grid0.coords t 0).val = t.val / 16 % 3 ∧ (grid0.coords t 1).val = t.val / 1 % 16 :=
  ⟨Pipeline.Grid.coords_val t 0 (by decide) rfl, Pipeline.Grid.coords_val t 1 (by decide) rfl⟩

/-- A row stored at one point is outside the rows of the others. -/
theorem row_disjoint {t u : Fin cfg0.N} (h : u.val < t.val) (x : S1x128.Idx) : (rowAt (grid0.coords u)).emb x ∉ (rowAt (grid0.coords t)).set := by
  intro hm
  have ht : t.val < 48 := Nat.lt_of_lt_of_eq t.isLt N_0
  have hx0 : (x 0).val < 1 := (x 0).isLt
  have hx1 : (x 1).val < 128 := (x 1).isLt
  obtain ⟨t0, t1⟩ := coords_vals t
  obtain ⟨u0, u1⟩ := coords_vals u
  rw [Rect.mem_set_unit] at hm
  have h0 := hm 0
  have h1 := hm 1
  change (grid0.coords t 0).val ≤ (grid0.coords u 0).val + 1 * (x 0).val ∧ (grid0.coords u 0).val + 1 * (x 0).val < (grid0.coords t 0).val + 1 at h0
  change 128 * (grid0.coords t 1).val ≤ 128 * (grid0.coords u 1).val + 1 * (x 1).val ∧ 128 * (grid0.coords u 1).val + 1 * (x 1).val < 128 * (grid0.coords t 1).val + 128 at h1
  omega

/-- Storing a point's row puts it in place and keeps the earlier ones. -/
theorem rows_step {c : Dev nD} {t : Fin cfg0.N} {W W' : Vec F S3x2048 .f32} (hW : ∀ u : Fin cfg0.N, u.val < t.val → ∀ x : S1x128.Idx, W ((rowAt (grid0.coords u)).emb x) = scalesAt m c u x)
    (hs : Stored W (rowAt (grid0.coords t)) (scalesAt m c t) W') : Rows m c t W' := by
  intro u hu x
  rcases Nat.lt_or_eq_of_le hu with h | h
  · rw [hs.2 _ (row_disjoint h x)]; exact hW u h x
  · obtain rfl : u = t := Fin.ext h
    exact hs.1 x

/-- What the body finds in the array of scales at point `t`: the rows of the points before. -/
theorem rows_found {c : Dev nD} {t : Fin cfg0.N} {W : Vec F S3x2048 .f32} (hW : (rdats m c).Finds 7 t W) :
    ∀ u : Fin cfg0.N, u.val < t.val → ∀ x : S1x128.Idx, W ((rowAt (grid0.coords u)).emb x) = scalesAt m c u x := by
  intro u hu x
  have ht : t.val < 48 := Nat.lt_of_lt_of_eq t.isLt N_0
  rcases ((rdats m c).finds_of_pos ((cfg0.win 7).fetch_out rfl _) (by omega) W).mp hW with hf | hl
  · have := (flush0_7 _).mp hf
    change (t.val - 1) % 48 = 47 at this
    omega
  · have hr : Rows m c ⟨t.val - 1, Nat.lt_of_le_of_lt (Nat.sub_le _ _) t.isLt⟩ W := (dats m 0 c).toRRel_leaves (fgt := marked) (Rl := Rl m c) (w := 7) rfl hl
    exact hr u (by show u.val ≤ t.val - 1; omega) x

/-! ## The body obligation -/

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t` window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdats m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Rl m c 7 t X⌝ ∗ owns (c : Thread nD τ) (ms0_7 t) fullShare X))

/-- The body at any point: the inputs' buffers hold their blocks, so its specification applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [after0_0, after0_1, after0_2, after0_3, after0_4, after0_5, after0_6]
  rw [show (dats m 0 c).Φ t.succ = (dats m 0 c).Φ t.castSucc from rfl,
    show (dats m 0 c).owesAt () t.succ = (dats m 0 c).owesAt () t.castSucc from rfl]
  rw [body_eq]
  iintro ⟨HΦ, Ho, ⟨%d0, H0⟩, ⟨%d1, H1⟩, ⟨%d2, H2⟩, ⟨%d3, H3⟩, ⟨%d4, H4⟩, ⟨%d5, H5⟩, ⟨%d6, H6⟩, ⟨%W, %hW, H7⟩⟩
  iapply (body_spec _ _ _ _ _ _ _ _ _ _ (iblk m c 0 t) (iblk m c 1 t) (iblk m c 2 t) (iblk m c 3 t) (iblk m c 4 t) c Set.univ (grid0.coords t) _ _ W _)
  unfold inputs
  isplitl [H0 H2 H3 H4]
  · isplitl [H0]; · iexact H0
    isplitl [H2]; · iexact H2
    isplitl [H3]; · iexact H3
    iexact H4
  isplitl [H1]; · iexact H1
  isplitl [H5]; · iexact H5
  isplitl [H6]; · iexact H6
  isplitl [H7]; · iexact H7
  iintro %W' %hs ⟨⟨H0, H2, H3, H4⟩, H1, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists W'
  isplitr
  · ipureintro; exact rows_step m (rows_found m hW) hs
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligationRel (dats (F := F) m 0 c) (defs₀ (F := F)) Variants.none () Set.univ marked (Rl m c) := fun t => by
  rw [bigSep_W0, bigSep_W0, defs₀_row]
  exact sound_body m c t

/-! ## The run and the frame -/

set_option backward.isDefEq.respectTransparency.types false in
/-- The run, with every counter at zero at the end. -/
theorem run_main_quiescent : θ_run defs (onTc (τ := τ) (main (F := F))) (s₀ m ρ) (fun r => (RDat.FramePost (cfgs 0) (rdats m) (V m)) r ∧ r.2.sem = fun _ => 0) :=
  RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The run. -/
theorem run_main : θ_run defs (onTc (τ := τ) (main (F := F))) (s₀ m ρ) (RDat.FramePost (cfgs 0) (rdats m) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (rdats m) (A_eq m) (run_main m ρ)

/-- The frame of the kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Words.lean ====
/-
  The float words that the two programs name, as extended reals. The words `k · 2²³` carry an exponent field and nothing else: zero, the
  powers of two from 2⁻¹²⁶ to 2¹²⁷, and infinity.
-/
module

public import Idealize.ShloMosaic.PureOps.Ideal.Laws

@[expose] public section

set_option maxRecDepth 16384

noncomputable section

namespace Cert.Value

open Idealize.ShloMosaic

/-- The word with exponent field `k` and nothing else. -/
abbrev powWord (k : BitVec 32) : BitVec 32 := IntOp.shli ArithUnit.vector k 23#32

theorem powWord_fields : ∀ k : Fin 256, ((powWord (BitVec.ofNat 32 k.val)).extractLsb' (8 + 23) 1 == 1#1) = false
    ∧ ((powWord (BitVec.ofNat 32 k.val)).extractLsb' 23 8).toNat = k.val ∧ ((powWord (BitVec.ofNat 32 k.val)).extractLsb' 0 23).toNat = 0 := by
  decide +kernel

/-- What that word denotes. -/
def pow (k : ℕ) : EReal := if k = 0 then 0 else if k = 255 then ⊤ else (((2 : ℝ) ^ ((k : ℤ) - 127) : ℝ) : EReal)

theorem ofBits_pow {k : ℕ} (hk : k < 256) : Ideal.ofBits FTy.f32 (powWord (BitVec.ofNat 32 k)) = pow k := by
  obtain ⟨h1, h2, h3⟩ := powWord_fields ⟨k, hk⟩
  unfold pow
  simp only [Ideal.ofBits, Ideal.ieee]
  rw [h1, h2, h3]
  norm_num
  by_cases a : k = 255
  · subst a; simp
  by_cases b : k = 0
  · subst b; simp
  rw [if_neg a, if_neg b, if_neg b, if_neg a, ← EReal.coe_mul, zpow_sub₀ (by norm_num : (2 : ℝ) ≠ 0) _ 23, EReal.coe_eq_coe_iff]
  norm_num
  ring

theorem ofBits_neg_inf : Ideal.ofBits FTy.f32 0xFF800000#32 = ⊥ := by
  simp [Ideal.ofBits, Ideal.ieee]
theorem ofBits_inf : Ideal.ofBits FTy.f32 0x7F800000#32 = ⊤ := by
  simp [Ideal.ofBits, Ideal.ieee]
/-- The smallest normal number. -/
theorem ofBits_tiny : Ideal.ofBits FTy.f32 0x00800000#32 = (((2 : ℝ) ^ (-126 : ℤ) : ℝ) : EReal) := by
  simp [Ideal.ofBits, Ideal.ieee, -EReal.coe_mul]; norm_num
/-- The largest finite number. -/
theorem ofBits_max : Ideal.ofBits FTy.f32 0x7F7FFFFF#32 = ((((2 : ℝ) ^ 24 - 1) * (2 : ℝ) ^ (104 : ℤ) : ℝ) : EReal) := by
  simp [Ideal.ofBits, Ideal.ieee, -EReal.coe_mul]; norm_num
theorem ofBits_7168 : Ideal.ofBits FTy.f32 0x45E00000#32 = ((7168 : ℝ) : EReal) := by
  simp [Ideal.ofBits, Ideal.ieee, -EReal.coe_mul]; norm_num
/-- The constant under the root is positive. -/
theorem ofBits_eps : Ideal.ofBits FTy.f32 0x358637BD#32 = ((8796093 * (2 : ℝ) ^ (-43 : ℤ) : ℝ) : EReal) := by
  simp [Ideal.ofBits, Ideal.ieee, -EReal.coe_mul]
/-- The reciprocal of the largest code is positive. -/
theorem ofBits_inv448 : Ideal.ofBits FTy.f32 0x3B124925#32 = ((9586981 * (2 : ℝ) ^ (-32 : ℤ) : ℝ) : EReal) := by
  simp [Ideal.ofBits, Ideal.ieee, -EReal.coe_mul]
/-- The two factors that cancel. -/
theorem ofBits_two16 : Ideal.ofBits FTy.f32 0x37800000#32 * Ideal.ofBits FTy.f32 0x47800000#32 = 1 := by
  simp [Ideal.ofBits, Ideal.ieee, -EReal.coe_mul]
  rw [← EReal.coe_mul]; norm_num

end Cert.Value

end
-- ==== Proof.Exponent.lean ====
/-
  The power of two that a token is divided by. The kernel finds the exponent field of the token's ratio by counting the powers of two
  not above it and builds the two floats it needs from field words; the reference takes a logarithm and raises two to its floor. Both
  agree at every ratio that is not negative, infinity and the subnormal numbers included.
-/
module

public import proofs.«01_k».proof.Proof.Words

@[expose] public section

set_option maxRecDepth 16384

noncomputable section

namespace Cert.Value

open Idealize.ShloMosaic

/-! ## The kernel's field -/

/-- How many of the 256 powers are not above `z`. -/
def count (z : EReal) : BitVec 32 :=
  Finset.fold IntOp.addi 0#32 (fun x : Fin 256 => if z < Ideal.ofBits FTy.f32 (IntOp.shli ArithUnit.vector (BitVec.ofNat 32 x.val) 23#32) then 0#32 else 1#32) Finset.univ

/-- The exponent field, with the fields of zero and infinity replaced by the field of one half. -/
def fieldOf (z : EReal) : BitVec 32 :=
  Scalar.select (IntOp.ori (IntOp.cmpi CmpIPredicate.eq (IntOp.subi (count z) 1#32) 0#32) (IntOp.cmpi CmpIPredicate.eq (IntOp.subi (count z) 1#32) 255#32))
    126#32 (IntOp.subi (count z) 1#32)

theorem fold_step : ∀ k : Fin 256, Finset.fold IntOp.addi 0#32 (fun x : Fin 256 => if k.val < x.val then 0#32 else 1#32) Finset.univ = BitVec.ofNat 32 (k.val + 1) := by
  decide +kernel

theorem select_step : ∀ k : Fin 256,
    (Scalar.select (IntOp.ori (IntOp.cmpi CmpIPredicate.eq (IntOp.subi (BitVec.ofNat 32 (k.val + 1)) 1#32) 0#32) (IntOp.cmpi CmpIPredicate.eq (IntOp.subi (BitVec.ofNat 32 (k.val + 1)) 1#32) 255#32))
      126#32 (IntOp.subi (BitVec.ofNat 32 (k.val + 1)) 1#32) : BitVec 32) = if k.val = 0 ∨ k.val = 255 then 126#32 else BitVec.ofNat 32 k.val := by
  decide +kernel

theorem fieldOf_eq {z : EReal} {k : ℕ} (hk : k < 256) (h : ∀ x : Fin 256, z < pow x.val ↔ k < x.val) :
    fieldOf z = if k = 0 ∨ k = 255 then 126#32 else BitVec.ofNat 32 k := by
  have hc : count z = BitVec.ofNat 32 (k + 1) := by
    rw [← fold_step ⟨k, hk⟩]
    unfold count
    refine Finset.fold_congr fun x _ => ?_
    rw [show Ideal.ofBits FTy.f32 (IntOp.shli ArithUnit.vector (BitVec.ofNat 32 x.val) 23#32) = pow x.val from ofBits_pow x.isLt]
    simp only [h]
  unfold fieldOf
  rw [hc]
  exact select_step ⟨k, hk⟩

theorem pow_mono {j k : ℕ} (hjk : j ≤ k) (hk : k < 256) : pow j ≤ pow k := by
  unfold pow
  by_cases h0 : j = 0
  · rw [if_pos h0]
    split_ifs
    · exact le_refl _
    · exact le_top
    · exact_mod_cast (by positivity : (0 : ℝ) ≤ _)
  · rw [if_neg h0, if_neg (by omega : ¬ k = 0)]
    by_cases h1 : k = 255
    · rw [if_pos h1]; exact le_top
    · rw [if_neg h1, if_neg (by omega)]
      exact_mod_cast zpow_le_zpow_right₀ (by norm_num : (1 : ℝ) ≤ 2) (sub_le_sub_right (Int.ofNat_le.mpr hjk) 127)

theorem pow_top : pow 255 = ⊤ := by simp [pow]
theorem pow_zero : pow 0 = 0 := by simp [pow]
theorem pow_real {k : ℕ} (h0 : k ≠ 0) (h1 : k ≠ 255) : pow k = (((2 : ℝ) ^ ((k : ℤ) - 127) : ℝ) : EReal) := by
  rw [pow, if_neg h0, if_neg h1]

/-- A finite number that is not negative lies between two neighbouring powers. -/
theorem between {z : EReal} (h0 : 0 ≤ z) (h1 : z ≠ ⊤) : ∃ k, k < 255 ∧ pow k ≤ z ∧ z < pow (k + 1) := by
  by_contra hn
  push Not at hn
  have : ∀ k, k ≤ 255 → pow k ≤ z := by
    intro k
    induction k with
    | zero => intro _; rw [pow_zero]; exact h0
    | succ k ih => intro hk; exact hn k (by omega) (ih (by omega))
  have h := this 255 (le_refl _)
  rw [pow_top] at h
  exact h1 (top_le_iff.mp h)

theorem fieldOf_between {z : EReal} {k : ℕ} (hk : k < 255) (hl : pow k ≤ z) (hu : z < pow (k + 1)) :
    fieldOf z = if k = 0 then 126#32 else BitVec.ofNat 32 k := by
  rw [fieldOf_eq (by omega : k < 256) fun x => ⟨fun h => ?_, fun h => lt_of_lt_of_le hu (pow_mono (by omega) x.isLt)⟩]
  · simp only [show k ≠ 255 by omega, or_false]
  · by_contra hx
    exact absurd (lt_of_le_of_lt (le_trans (pow_mono (by omega : x.val ≤ k) (by omega)) hl) h) (lt_irrefl _)

theorem fieldOf_top : fieldOf ⊤ = 126#32 := by
  rw [fieldOf_eq (by decide : 255 < 256) fun x => ⟨fun h => absurd h not_top_lt, fun h => absurd x.isLt (by omega)⟩]
  simp

/-! ## The reference's exponent -/

/-- The exponent by the logarithm; zero below the normal numbers and at infinity. -/
def frexpE (z : EReal) : EReal :=
  Scalar.select (IntOp.ori (BitVec.ofBool (decide (z < Ideal.ofBits FTy.f32 0x00800000#32))) (BitVec.ofBool (decide (z = Ideal.ofBits FTy.f32 0x7F800000#32))))
    0 (Ideal.liftRound Int.floor (Ideal.div (Ideal.log z) ((Real.log 2 : ℝ) : EReal)) + 1)

/-- Two to the power `e`, within the range of the normal numbers. -/
def ldexpOne (e : EReal) : EReal :=
  if Ideal.exp2 e < Ideal.ofBits FTy.f32 0x00800000#32 then 0
  else if Ideal.ofBits FTy.f32 0x7F7FFFFF#32 < Ideal.exp2 e then Ideal.ofBits FTy.f32 0x7F800000#32 else Ideal.exp2 e

theorem exp2_int (n : ℤ) : Ideal.exp2 ((n : ℝ) : EReal) = (((2 : ℝ) ^ n : ℝ) : EReal) := by
  show ((Real.rpow 2 (n : ℝ) : ℝ) : EReal) = _
  rw [show Real.rpow 2 (n : ℝ) = (2 : ℝ) ^ (n : ℝ) from rfl, Real.rpow_intCast]

theorem ldexpOne_small {n : ℤ} (h : n < -126) : ldexpOne ((n : ℝ) : EReal) = 0 := by
  unfold ldexpOne
  rw [exp2_int, ofBits_tiny, if_pos]
  exact_mod_cast zpow_lt_zpow_right₀ (by norm_num : (1 : ℝ) < 2) h

theorem ldexpOne_large {n : ℤ} (h : 127 < n) : ldexpOne ((n : ℝ) : EReal) = ⊤ := by
  unfold ldexpOne
  rw [exp2_int, ofBits_tiny, ofBits_max, ofBits_inf, if_neg, if_pos]
  · rw [EReal.coe_lt_coe_iff]
    refine lt_of_lt_of_le (b := (2 : ℝ) ^ (128 : ℤ)) (by norm_num) (zpow_le_zpow_right₀ (by norm_num) (by omega))
  · rw [not_lt, EReal.coe_le_coe_iff]
    exact zpow_le_zpow_right₀ (by norm_num) (by omega)

theorem ldexpOne_mid {n : ℤ} (h : -126 ≤ n) (h' : n ≤ 127) : ldexpOne ((n : ℝ) : EReal) = (((2 : ℝ) ^ n : ℝ) : EReal) := by
  unfold ldexpOne
  rw [exp2_int, ofBits_tiny, ofBits_max, ofBits_inf, if_neg, if_neg]
  · rw [not_lt, EReal.coe_le_coe_iff]
    refine le_trans (zpow_le_zpow_right₀ (by norm_num) h') (by norm_num)
  · rw [not_lt, EReal.coe_le_coe_iff]
    exact zpow_le_zpow_right₀ (by norm_num) h

/-- A word of the kernel built from an exponent field, as the reference raises two to a power. -/
theorem pow_ldexpOne {k : ℕ} (hk : k < 256) : pow k = ldexpOne (((((k : ℤ) - 127 : ℤ)) : ℝ) : EReal) := by
  by_cases h0 : k = 0
  · subst h0; rw [pow_zero, ldexpOne_small (by norm_num)]
  by_cases h1 : k = 255
  · subst h1; rw [pow_top, ldexpOne_large (by norm_num)]
  rw [pow_real h0 h1, ldexpOne_mid (by omega) (by omega)]

theorem frexpE_small {z : EReal} (h : z < (((2 : ℝ) ^ (-126 : ℤ) : ℝ) : EReal)) : frexpE z = 0 := by
  unfold frexpE
  rw [ofBits_tiny, decide_eq_true h]
  cases decide (z = Ideal.ofBits FTy.f32 0x7F800000#32) <;> rfl

theorem frexpE_top : frexpE ⊤ = 0 := by
  unfold frexpE
  rw [ofBits_inf, decide_eq_true (rfl : (⊤ : EReal) = ⊤)]
  cases decide ((⊤ : EReal) < Ideal.ofBits FTy.f32 0x00800000#32) <;> rfl

theorem frexpE_real {r : ℝ} (h : (2 : ℝ) ^ (-126 : ℤ) ≤ r) : frexpE (r : EReal) = (((⌊Real.log r / Real.log 2⌋ + 1 : ℤ) : ℝ) : EReal) := by
  have hr : 0 < r := lt_of_lt_of_le (by positivity) h
  unfold frexpE
  rw [ofBits_tiny, ofBits_inf, decide_eq_false (by rw [not_lt, EReal.coe_le_coe_iff]; exact h), decide_eq_false (EReal.coe_ne_top r)]
  show Ideal.liftRound Int.floor (Ideal.div (Ideal.log (r : EReal)) ((Real.log 2 : ℝ) : EReal)) + 1 = _
  have hl : Real.log 2 ≠ 0 := (Real.log_pos (by norm_num)).ne'
  rw [Ideal.div_coe hl, show Ideal.log (r : EReal) = ((Real.log r : ℝ) : EReal) from if_neg (not_le.mpr hr), ← EReal.coe_mul]
  show (((⌊Real.log r * (1 / Real.log 2)⌋ : ℤ) : ℝ) : EReal) + 1 = _
  rw [mul_one_div]
  push_cast
  rfl

theorem log_two_pos : 0 < Real.log 2 := Real.log_pos (by norm_num)

theorem le_floor {r : ℝ} {n : ℤ} (h : (2 : ℝ) ^ n ≤ r) : n ≤ ⌊Real.log r / Real.log 2⌋ := by
  rw [Int.le_floor, le_div_iff₀ log_two_pos, ← Real.log_zpow]
  exact Real.log_le_log (by positivity) h

theorem floor_lt {r : ℝ} {n : ℤ} (hr : 0 < r) (h : r < (2 : ℝ) ^ n) : ⌊Real.log r / Real.log 2⌋ < n := by
  rw [Int.floor_lt, div_lt_iff₀ log_two_pos, ← Real.log_zpow]
  exact Real.log_lt_log hr h

/-! ## They agree -/

/-- The field is a number `k` from 1 to 254, and the reference's exponent is `k - 126`, or above 127 where `k` is the last. -/
theorem field_exponent {z : EReal} (hz : 0 ≤ z) : ∃ (k : ℕ) (n : ℤ), 1 ≤ k ∧ k ≤ 254 ∧ fieldOf z = BitVec.ofNat 32 k ∧ frexpE z = ((n : ℝ) : EReal)
    ∧ (n = (k : ℤ) - 126 ∨ k = 254 ∧ 127 < n) := by
  by_cases ht : z = ⊤
  · subst ht
    exact ⟨126, 0, by norm_num, by norm_num, fieldOf_top, by rw [frexpE_top]; simp, .inl (by norm_num)⟩
  obtain ⟨k, hk, hl, hu⟩ := between hz ht
  by_cases h0 : k = 0
  · subst h0
    refine ⟨126, 0, by norm_num, by norm_num, by rw [fieldOf_between hk hl hu, if_pos rfl], ?_, .inl (by norm_num)⟩
    rw [frexpE_small]
    · simp
    · rw [pow_real (by norm_num) (by norm_num)] at hu; exact hu
  have hf : fieldOf z = BitVec.ofNat 32 k := by rw [fieldOf_between hk hl hu, if_neg h0]
  rw [pow_real h0 (by omega)] at hl
  lift z to ℝ using ⟨ht, fun h => by rw [h] at hz; exact absurd hz (by simp)⟩ with r
  rw [EReal.coe_le_coe_iff] at hl
  have hr : 0 < r := lt_of_lt_of_le (by positivity) hl
  have hn := le_floor hl
  refine ⟨k, ⌊Real.log r / Real.log 2⌋ + 1, by omega, by omega, hf, frexpE_real (le_trans (zpow_le_zpow_right₀ (by norm_num) (by omega)) hl), ?_⟩
  by_cases h1 : k = 254
  · exact .inr ⟨h1, by omega⟩
  · rw [pow_real (by omega) (by omega), EReal.coe_lt_coe_iff] at hu
    have := floor_lt hr hu
    left; push_cast at this; omega

theorem words_step : ∀ k : Fin 255, IntOp.addi (BitVec.ofNat 32 k.val) 1#32 = BitVec.ofNat 32 (k.val + 1)
    ∧ IntOp.maxsi (IntOp.subi 253#32 (BitVec.ofNat 32 k.val)) 0#32 = BitVec.ofNat 32 (253 - k.val) := by
  decide +kernel

/-- The power of two a token is divided by. -/
theorem scale_eq {z : EReal} (hz : 0 ≤ z) :
    Ideal.ofBits FTy.f32 (IntOp.shli ArithUnit.vector (IntOp.addi (fieldOf z) 1#32) 23#32) = ldexpOne (frexpE z) := by
  obtain ⟨k, n, h1, h2, hf, he, h⟩ := field_exponent hz
  rw [hf, he, (words_step ⟨k, by omega⟩).1, show Ideal.ofBits FTy.f32 (IntOp.shli ArithUnit.vector (BitVec.ofNat 32 (k + 1)) 23#32) = pow (k + 1) from ofBits_pow (by omega)]
  rcases h with rfl | ⟨rfl, h⟩
  · rw [pow_ldexpOne (by omega), show ((k + 1 : ℕ) : ℤ) - 127 = (k : ℤ) - 126 by omega]
  · rw [pow_top, ldexpOne_large h]

/-- Its reciprocal, by which the token is multiplied. -/
theorem inv_scale_eq {z : EReal} (hz : 0 ≤ z) :
    Ideal.ofBits FTy.f32 (IntOp.shli ArithUnit.vector (IntOp.maxsi (IntOp.subi 253#32 (fieldOf z)) 0#32) 23#32) = ldexpOne (0 - frexpE z) := by
  obtain ⟨k, n, h1, h2, hf, he, h⟩ := field_exponent hz
  rw [hf, he, (words_step ⟨k, by omega⟩).2, show Ideal.ofBits FTy.f32 (IntOp.shli ArithUnit.vector (BitVec.ofNat 32 (253 - k)) 23#32) = pow (253 - k) from ofBits_pow (by omega),
    show (0 : EReal) - ((n : ℝ) : EReal) = (((-n : ℤ) : ℝ) : EReal) by rw [zero_sub]; push_cast; rfl]
  rcases h with rfl | ⟨rfl, h⟩
  · by_cases h3 : k = 254
    · subst h3; rw [pow_zero, ldexpOne_small (by norm_num)]
    · rw [pow_ldexpOne (by omega)]; congr 4; omega
  · rw [pow_zero, ldexpOne_small (by omega)]

end Cert.Value

end
-- ==== Proof.Token.lean ====
/-
  One token: what the three results hold for it, as the reference computes them, and the facts that carry the kernel's way of computing
  them over: sums and maxima kept per lane, the mean by a multiplication, the reciprocal root taken out of the maximum, the power of two
  split between two factors, the weighted sum of the partial results as a product with a block-diagonal matrix.
-/
module

public import proofs.«01_k».proof.Proof.Exponent

@[expose] public section

set_option maxRecDepth 16384

noncomputable section

namespace Cert.Value

open Idealize.ShloMosaic

/-! ## What the results hold -/

/-- The magnitude. -/
def mag (x : EReal) : EReal := max x (-x)

/-- The new residual of a token in one column: four scaled partial sums, the bias, the residual that came in. -/
def residual (P S : Fin 4 → EReal) (b x : EReal) : EReal := P 0 * S 0 + P 1 * S 1 + P 2 * S 2 + P 3 * S 3 + b + x

/-- The reciprocal root of the mean square of a token's residuals. -/
def rmsInv (R : Fin 7168 → EReal) : EReal :=
  Ideal.rsqrt (Ideal.div (∑ l, R l * R l) (Ideal.ofBits FTy.f32 0x45E00000#32) + Ideal.ofBits FTy.f32 0x358637BD#32)

/-- The largest magnitude of the normalized token, over the largest code. -/
def ratioOf (R g : Fin 7168 → EReal) : EReal :=
  (Finset.univ.sup fun l => mag (R l * rmsInv R * g l)) * Ideal.ofBits FTy.f32 0x3B124925#32

/-- The code of a token in one column. -/
def codeOf (R g : Fin 7168 → EReal) (l : Fin 7168) : EReal :=
  min (Ideal.ofBits FTy.f32 0x43E00000#32) (max (Ideal.ofBits FTy.f32 0xC3E00000#32) (R l * rmsInv R * g l * ldexpOne (0 - frexpE (ratioOf R g))))

/-- The power of two a token is divided by. -/
def scaleOf (R g : Fin 7168 → EReal) : EReal := ldexpOne (frexpE (ratioOf R g))

/-- The maximum of a row, as a supremum. -/
theorem fold_max {n : ℕ} (f : Fin n → EReal) : Finset.fold max (Ideal.ofBits FTy.f32 0xFF800000#32) f Finset.univ = Finset.univ.sup f := by
  rw [ofBits_neg_inf]; rfl

/-! ## Signs -/

theorem mag_nonneg (x : EReal) : 0 ≤ mag x := by
  show 0 ≤ max x (-x)
  rcases le_total 0 x with h | h
  · exact le_max_of_le_left h
  · exact le_max_of_le_right (EReal.neg_nonneg.mpr h)

theorem mag_mul {x r : EReal} (hr : 0 ≤ r) : mag (x * r) = mag x * r := by
  show max (x * r) (-(x * r)) = max x (-x) * r
  rw [← EReal.neg_mul]
  rcases le_total x (-x) with h | h
  · rw [max_eq_right h, max_eq_right (mul_le_mul_of_nonneg_right h hr)]
  · rw [max_eq_left h, max_eq_left (mul_le_mul_of_nonneg_right h hr)]

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem rsqrt_nonneg {v : EReal} (hv : 0 < v) : 0 ≤ Ideal.rsqrt v := by
  induction v with
  | bot => exact absurd hv (by simp)
  | top => exact le_refl _
  | coe r =>
    have hr : 0 < r := by exact_mod_cast hv
    have h : Ideal.rsqrt (r : EReal) = (((Real.sqrt r)⁻¹ : ℝ) : EReal) := by
      show (if r < 0 then (⊥ : EReal) else if r = 0 then ⊤ else _) = _
      rw [if_neg (not_lt.mpr hr.le), if_neg hr.ne']
    rw [h]
    exact_mod_cast inv_nonneg.mpr (Real.sqrt_nonneg r)

theorem mean_eq (S : EReal) : Ideal.div S (Ideal.ofBits FTy.f32 0x45E00000#32) = S * ((1 / 7168 : ℝ) : EReal) := by
  rw [ofBits_7168, Ideal.div_coe (by norm_num)]

theorem rmsInv_nonneg (R : Fin 7168 → EReal) : 0 ≤ rmsInv R := by
  refine rsqrt_nonneg (lt_of_lt_of_le (b := Ideal.ofBits FTy.f32 0x358637BD#32) ?_ ?_)
  · rw [ofBits_eps]; exact_mod_cast (by positivity : (0 : ℝ) < _)
  · rw [mean_eq]
    refine le_add_of_nonneg_left (mul_nonneg (Finset.sum_nonneg fun l _ => square_nonneg _) ?_)
    exact_mod_cast (by norm_num : (0 : ℝ) ≤ 1 / 7168)

theorem ratioOf_nonneg (R g : Fin 7168 → EReal) : 0 ≤ ratioOf R g := by
  refine mul_nonneg (le_trans (mag_nonneg _) (Finset.le_sup (f := fun l => mag (R l * rmsInv R * g l)) (Finset.mem_univ 0))) ?_
  rw [ofBits_inv448]; exact_mod_cast (by positivity : (0 : ℝ) ≤ _)

/-! ## Accumulators kept per lane -/

/-- A function of a column, zero past the last column. -/
def ext (F : Fin 7168 → EReal) (l : ℕ) : EReal := if h : l < 7168 then F ⟨l, h⟩ else 0

theorem ext_of_lt (F : Fin 7168 → EReal) {l : ℕ} (h : l < 7168) : ext F l = F ⟨l, h⟩ := dif_pos h

/-- The sums of the lanes add up to the whole sum. -/
theorem sum_lanes (F : Fin 7168 → EReal) (A : ℕ → Fin 128 → EReal) (h0 : ∀ k, A 0 k = 0)
    (hs : ∀ n < 28, ∀ k : Fin 128, A (n + 1) k = A n k + ext F (256 * n + k.val) + ext F (256 * n + (128 + k.val))) : ∑ k, A 28 k = ∑ l, F l := by
  have key : ∀ n ≤ 28, ∑ k, A n k = ∑ l ∈ Finset.range (256 * n), ext F l := by
    intro n
    induction n with
    | zero => intro _; simp [h0]
    | succ n ih =>
      intro hn
      rw [Finset.sum_congr rfl fun k _ => hs n (by omega) k, Finset.sum_add_distrib, Finset.sum_add_distrib, ih (by omega),
        show 256 * (n + 1) = 256 * n + 128 + 128 by omega, Finset.sum_range_add, Finset.sum_range_add,
        Finset.sum_range (fun x => ext F (256 * n + x)), Finset.sum_range (fun x => ext F (256 * n + 128 + x))]
      simp only [Nat.add_assoc]
  rw [key 28 (le_refl _), Finset.sum_range]
  exact Finset.sum_congr rfl fun l _ => ext_of_lt F l.isLt

/-- The largest of the lanes' maxima is the whole maximum. -/
theorem sup_lanes (F : Fin 7168 → EReal) (hF : ∀ l, 0 ≤ F l) (A : ℕ → Fin 128 → EReal) (h0 : ∀ k, A 0 k = 0)
    (hs : ∀ n < 28, ∀ k : Fin 128, A (n + 1) k = max (max (A n k) (ext F (256 * n + k.val))) (ext F (256 * n + (128 + k.val)))) :
    Finset.univ.sup (A 28) = Finset.univ.sup F := by
  have key : ∀ n ≤ 28, ∀ b : EReal, (∀ k, A n k ≤ b) ↔ 0 ≤ b ∧ ∀ l < 256 * n, ext F l ≤ b := by
    intro n
    induction n with
    | zero => intro _ b; simp [h0]
    | succ n ih =>
      intro hn b
      constructor
      · intro h
        have h' := fun k => (hs n (by omega) k).symm.trans_le (h k)
        simp only [max_le_iff] at h'
        obtain ⟨hb, hl⟩ := (ih (by omega) b).mp fun k => (h' k).1.1
        refine ⟨hb, fun l hlt => ?_⟩
        by_cases h1 : l < 256 * n
        · exact hl l h1
        by_cases h2 : l < 256 * n + 128
        · have := (h' ⟨l - 256 * n, by omega⟩).1.2
          rwa [show 256 * n + (l - 256 * n) = l by omega] at this
        · have := (h' ⟨l - 256 * n - 128, by omega⟩).2
          rwa [show 256 * n + (128 + (l - 256 * n - 128)) = l by omega] at this
      · rintro ⟨hb, hl⟩ k
        rw [hs n (by omega) k]
        have hk := k.isLt
        exact max_le (max_le ((ih (by omega) b).mpr ⟨hb, fun l h => hl l (by omega)⟩ k) (hl _ (by omega))) (hl _ (by omega))
  refine eq_of_forall_ge_iff fun b => ?_
  rw [Finset.sup_le_iff, Finset.sup_le_iff]
  simp only [Finset.mem_univ, forall_true_left]
  rw [key 28 (le_refl _) b]
  constructor
  · rintro ⟨_, h⟩ l
    rw [← ext_of_lt F l.isLt]; exact h l.val l.isLt
  · intro h
    exact ⟨le_trans (hF 0) (h 0), fun l hl => by rw [ext_of_lt F hl]; exact h _⟩

/-- The reciprocal root taken out of the maximum. -/
theorem sup_scaled (R g : Fin 7168 → EReal) {r : EReal} (hr : 0 ≤ r) :
    (Finset.univ.sup fun l => mag (R l * r * g l)) = (Finset.univ.sup fun l => mag (R l * g l)) * r := by
  have he : ∀ l, mag (R l * r * g l) = mag (R l * g l) * r := fun l => by
    rw [mul_right_comm, mag_mul hr]
  simp only [he]
  obtain ⟨l₀, _, h₀⟩ := Finset.exists_mem_eq_sup (Finset.univ : Finset (Fin 7168)) ⟨0, Finset.mem_univ 0⟩ fun l => mag (R l * g l)
  refine le_antisymm (Finset.sup_le fun l hl => mul_le_mul_of_nonneg_right (Finset.le_sup (f := fun l => mag (R l * g l)) hl) hr) ?_
  rw [h₀]
  exact Finset.le_sup (f := fun l => mag (R l * g l) * r) (Finset.mem_univ l₀)

/-! ## The kernel's values of a token -/

/-- The kernel's ratio is the reference's. -/
theorem ratio_eq (R g : Fin 7168 → EReal) :
    (Finset.univ.sup fun l => mag (R l * g l)) * rmsInv R * Ideal.ofBits FTy.f32 0x3B124925#32 = ratioOf R g := by
  rw [ratioOf, sup_scaled R g (rmsInv_nonneg R)]

/-- The kernel's codes are the reference's. -/
theorem code_eq (R g : Fin 7168 → EReal) (l : Fin 7168) :
    min (Ideal.ofBits FTy.f32 0x43E00000#32) (max (Ideal.ofBits FTy.f32 0xC3E00000#32)
      (R l * (rmsInv R * Ideal.ofBits FTy.f32 0x37800000#32
        * Ideal.ofBits FTy.f32 (IntOp.shli ArithUnit.vector (IntOp.maxsi (IntOp.subi 253#32 (fieldOf (ratioOf R g))) 0#32) 23#32))
        * (g l * Ideal.ofBits FTy.f32 0x47800000#32))) = codeOf R g l := by
  rw [inv_scale_eq (ratioOf_nonneg R g), codeOf]
  generalize ldexpOne (0 - frexpE (ratioOf R g)) = e
  congr 2
  calc _ = R l * rmsInv R * g l * e * (Ideal.ofBits FTy.f32 0x37800000#32 * Ideal.ofBits FTy.f32 0x47800000#32) := by ac_rfl
    _ = _ := by rw [ofBits_two16, mul_one]

/-! ## The product with the block-diagonal matrix -/

theorem cmpi_eq_ofNat {a b : ℕ} (ha : a < 2 ^ 32) (hb : b < 2 ^ 32) :
    IntOp.cmpi CmpIPredicate.eq (BitVec.ofNat 32 a) (BitVec.ofNat 32 b) = BitVec.ofBool (decide (a = b)) := by
  have : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  show BitVec.ofBool (BitVec.ofNat 32 a == BitVec.ofNat 32 b) = _
  rw [beq_eq_decide]
  simp only [this]

theorem select_decide {α : Type} (p : Prop) [Decidable p] (a b : α) : Scalar.select (BitVec.ofBool (decide p)) a b = if p then a else b := by
  by_cases h : p <;> simp [h, Scalar.select]

/-- The sum over the 256 rows of codes: only the four of the token have a scale that is not zero. -/
theorem dot_eq (t : Fin 64) (S : Fin 4 → EReal) (C : Fin 64 → Fin 4 → EReal) (M : Fin 256 → EReal)
    (hM : ∀ x : Fin 256, M x = if x.val = 4 * t.val + 3 then S 3 else if x.val = 4 * t.val + 2 then S 2 else if x.val = 4 * t.val + 1 then S 1 else if x.val = 4 * t.val then S 0 else 0) :
    ∑ x : Fin 256, M x * C ⟨x.val / 4, by omega⟩ ⟨x.val % 4, by omega⟩ = C t 0 * S 0 + C t 1 * S 1 + C t 2 * S 2 + C t 3 * S 3 := by
  rw [← Equiv.sum_comp (finProdFinEquiv : Fin 64 × Fin 4 ≃ Fin 256), Fintype.sum_prod_type, Finset.sum_eq_single t]
  · rw [Fin.sum_univ_four]
    have hv : ∀ p : Fin 4, ((finProdFinEquiv : Fin 64 × Fin 4 ≃ Fin 256) (t, p)).val = p.val + 4 * t.val := fun p => rfl
    have hC : ∀ p : Fin 4, C ⟨((finProdFinEquiv : Fin 64 × Fin 4 ≃ Fin 256) (t, p)).val / 4, by omega⟩ ⟨((finProdFinEquiv : Fin 64 × Fin 4 ≃ Fin 256) (t, p)).val % 4, by omega⟩ = C t p := fun p => by
      congr 1
      · apply Fin.ext; show (p.val + 4 * t.val) / 4 = t.val; omega
      · apply Fin.ext; show (p.val + 4 * t.val) % 4 = p.val; omega
    have hm : ∀ p : Fin 4, M ((finProdFinEquiv : Fin 64 × Fin 4 ≃ Fin 256) (t, p)) = S p := fun p => by
      rw [hM, hv]
      fin_cases p <;> simp [Nat.add_comm]
    simp only [hC, hm, mul_comm (S _)]
  · intro u _ hu
    have hu' : u.val ≠ t.val := fun h => hu (Fin.ext h)
    refine Finset.sum_eq_zero fun p _ => ?_
    have hv : ((finProdFinEquiv : Fin 64 × Fin 4 ≃ Fin 256) (u, p)).val = p.val + 4 * u.val := rfl
    have hp := p.isLt
    have hm : M ((finProdFinEquiv : Fin 64 × Fin 4 ≃ Fin 256) (u, p)) = 0 := by
      rw [hM, hv, if_neg (by omega), if_neg (by omega), if_neg (by omega), if_neg (by omega)]
    rw [hm, zero_mul]
  · intro h; exact absurd (Finset.mem_univ t) h

/-- The sum over a diagonal. -/
theorem sum_diag {n : ℕ} (f : Fin n → EReal) (q : ℕ) (k : ℕ) (hq : q + n ≤ 2 ^ 32) (hk : k < 2 ^ 32) :
    ∑ x : Fin n, Scalar.select (IntOp.cmpi CmpIPredicate.eq (BitVec.ofNat 32 (q + x.val)) (BitVec.ofNat 32 k)) (f x) 0
      = if h : q ≤ k ∧ k < q + n then f ⟨k - q, by omega⟩ else 0 := by
  have he : ∀ x : Fin n, Scalar.select (IntOp.cmpi CmpIPredicate.eq (BitVec.ofNat 32 (q + x.val)) (BitVec.ofNat 32 k)) (f x) 0 = if q + x.val = k then f x else 0 := fun x => by
    have := x.isLt
    rw [cmpi_eq_ofNat (by omega) hk, select_decide]
  simp only [he]
  by_cases h : q ≤ k ∧ k < q + n
  · rw [dif_pos h, Finset.sum_eq_single ⟨k - q, by omega⟩]
    · rw [if_pos (by show q + (k - q) = k; omega)]
    · intro x _ hx
      rw [if_neg fun hh => hx (Fin.ext (by show x.val = k - q; omega))]
    · intro hh; exact absurd (Finset.mem_univ _) hh
  · rw [dif_neg h]
    refine Finset.sum_eq_zero fun x _ => ?_
    have := x.isLt
    rw [if_neg (by omega)]

end Cert.Value

end
-- ==== Proof.Results.lean ====
/-
  The three results as whole arrays, from the five arguments: partial sums `p`, their scales `s`, bias `b`, incoming residual `x`, gain `g`.
-/
module

public import proofs.«01_k».proof.Proof.Token
public import Idealize.ShloMosaic.Lib.Pointwise

@[expose] public section

set_option maxRecDepth 16384

noncomputable section

namespace Cert.Value

open Idealize.ShloMosaic

variable (p : (⟨4, ![3, 2048, 4, 7168]⟩ : Shape).Idx → EReal) (s : (⟨3, ![3, 2048, 4]⟩ : Shape).Idx → EReal) (b : (⟨1, ![7168]⟩ : Shape).Idx → EReal)
  (x : (⟨3, ![3, 2048, 7168]⟩ : Shape).Idx → EReal) (g : (⟨1, ![7168]⟩ : Shape).Idx → EReal)

/-- The new residual of token `t` of batch `i`. -/
def tokenResidual (i : Fin 3) (t : Fin 2048) : Fin 7168 → EReal := fun l =>
  residual (fun q => p (ix4 i t q l)) (fun q => s (ix3 i t q)) (b (ix1 l)) (x (ix3 i t l))

/-- The gain. -/
def gain : Fin 7168 → EReal := fun l => g (ix1 l)

/-- The new residuals, -/
def residuals : (⟨3, ![3, 2048, 7168]⟩ : Shape).Idx → EReal := fun y => tokenResidual p s b x (y 0) (y 1) (y 2)
/-- the codes, -/
def codes : (⟨3, ![3, 2048, 7168]⟩ : Shape).Idx → EReal := fun y => codeOf (tokenResidual p s b x (y 0) (y 1)) (gain g) (y 2)
/-- and the powers of two. -/
def tokenScales : (⟨2, ![3, 2048]⟩ : Shape).Idx → EReal := fun y => scaleOf (tokenResidual p s b x (y 0) (y 1)) (gain g)

end Cert.Value

end
-- ==== Proof.BlockValue.lean ====
/-
  The block computations of `Body` read at an index, over the extended reals.
-/
module

public import proofs.«01_k».proof.Proof.Whole
public import proofs.«01_k».proof.Proof.Token
public import Idealize.ShloMosaic.Lib.Pointwise

@[expose] public section

set_option maxRecDepth 16384

noncomputable section

namespace Cert.KernelIdeal.Hand

open Idealize.ShloMosaic Cert.KernelIdeal Cert.KernelIdeal.Gen Cert.Value

/-- Token `t` of half `h`, -/
def tok (h : Fin 2) (t : Fin 64) : Fin 128 := ⟨64 * h.val + t.val, by omega⟩
/-- and column `k` of block `n`. -/
def col (n : Fin 28) (k : Fin 256) : Fin 7168 := ⟨256 * n.val + k.val, by omega⟩

/-- The scale of shard `p` for token `t` of half `h`, on the block diagonal. -/
theorem scaleMat_apply (h : Fin 2) (v : Vec Ideal S1x4x128 .f32) (t : Fin 64) (k : Fin 256) :
    scaleMat h v (ix2 t k) = if k.val = 4 * t.val + 3 then v (ix3 0 3 (tok h t)) else if k.val = 4 * t.val + 2 then v (ix3 0 2 (tok h t))
      else if k.val = 4 * t.val + 1 then v (ix3 0 1 (tok h t)) else if k.val = 4 * t.val then v (ix3 0 0 (tok h t)) else 0 := by
  have hc : ∀ p : ℕ, p < 4 → IntOp.addi (IntOp.muli (BitVec.ofNat 32 t.val) 4#32) (BitVec.ofNat 32 p) = BitVec.ofNat 32 (4 * t.val + p) := fun p _ => by
    show BitVec.ofNat 32 t.val * 4#32 + BitVec.ofNat 32 p = _
    rw [Nat.mul_comm, BitVec.ofNat_add, BitVec.ofNat_mul]
  have ht := t.isLt
  have hk := k.isLt
  have hd : ∀ p : ℕ, p < 4 → IntOp.cmpi CmpIPredicate.eq (BitVec.ofNat 32 k.val) (IntOp.addi (IntOp.muli (BitVec.ofNat 32 t.val) 4#32) (BitVec.ofNat 32 p))
      = BitVec.ofBool (decide (k.val = 4 * t.val + p)) := fun p hp => by
    rw [hc p hp, cmpi_eq_ofNat (by omega) (by omega)]
  have h0 := hd 0 (by decide)
  have h1 := hd 1 (by decide)
  have h2 := hd 2 (by decide)
  have h3 := hd 3 (by decide)
  unfold scaleMat
  pointwise
  rw [h0, h1, h2, h3]
  simp only [select_decide]
  rfl

/-- The residual of a block. -/
theorem resBlock_apply (s : FVec Ideal S64x256 .bf16) (a b : Vec Ideal S1x64x4x128 .fp8e4m3) (x : Vec Ideal S1x64x256 .bf16) (bi : Vec Ideal S1x256 .f32)
    (t : Fin 64) (k : Fin 256) : resBlock s a b x bi (ix2 t k)
      = (∑ x : Fin 256, s (ix2 t x) * if h : k.val < 128 then a (ix4 0 ⟨x.val / 4, by omega⟩ ⟨x.val % 4, by omega⟩ ⟨k.val, h⟩)
          else b (ix4 0 ⟨x.val / 4, by omega⟩ ⟨x.val % 4, by omega⟩ ⟨k.val - 128, by omega⟩)) + bi (ix2 0 k) + x (ix3 0 t k) := by
  unfold resBlock
  pointwise

theorem stored_apply (r : FVec Ideal S64x256 .bf16) (t : Fin 64) (k : Fin 256) : stored r (ix3 0 t k) = r (ix2 t k) := by
  unfold stored
  pointwise

/-- The lanes of a block, lower and upper half. -/
def lo (k : Fin 128) : Fin 256 := ⟨k.val, by omega⟩
def hi (k : Fin 128) : Fin 256 := ⟨128 + k.val, by omega⟩

theorem ssqStep_apply (acc : FVec Ideal S64x128 .f32) (r : FVec Ideal S64x256 .bf16) (t : Fin 64) (k : Fin 128) :
    ssqStep acc r (ix2 t k) = acc (ix2 t k) + r (ix2 t (lo k)) * r (ix2 t (lo k)) + r (ix2 t (hi k)) * r (ix2 t (hi k)) := by
  unfold ssqStep
  pointwise
  rfl

theorem amaxStep_apply (acc : FVec Ideal S64x128 .f32) (r : FVec Ideal S64x256 .bf16) (g : Vec Ideal S1x256 .f32) (t : Fin 64) (k : Fin 128) :
    amaxStep acc r g (ix2 t k) = max (max (acc (ix2 t k)) (mag (r (ix2 t (lo k)) * g (ix2 0 (lo k))))) (mag (r (ix2 t (hi k)) * g (ix2 0 (hi k)))) := by
  unfold amaxStep
  pointwise
  rfl

theorem rstd_apply (acc : FVec Ideal S64x128 .f32) (t : Fin 64) :
    rstd acc (ix2 t 0) = Ideal.rsqrt ((∑ k : Fin 128, acc (ix2 t k)) * ((1 / 7168 : ℝ) : EReal) + Ideal.ofBits FTy.f32 0x358637BD#32) := by
  unfold rstd
  pointwise
  rfl

theorem ratio_apply (acc : FVec Ideal S64x128 .f32) (r : FVec Ideal S64x1 .f32) (t : Fin 64) :
    ratio acc r (ix2 t 0) = (Finset.univ.sup fun k : Fin 128 => acc (ix2 t k)) * r (ix2 t 0) * Ideal.ofBits FTy.f32 0x3B124925#32 := by
  unfold ratio
  pointwise
  rw [fold_max]

theorem field_apply (z : FVec Ideal S64x1 .f32) (t : Fin 64) : field z (ix2 t 0) = fieldOf (z (ix2 t 0)) := by
  unfold field
  pointwise
  rfl

theorem yScale_apply (e : IVec S64x1 32) (t : Fin 64) :
    (yScale e : FVec Ideal S64x1 .f32) (ix2 t 0) = Ideal.ofBits FTy.f32 (IntOp.shli ArithUnit.vector (IntOp.addi (e (ix2 t 0)) 1#32) 23#32) := by
  unfold yScale
  pointwise

theorem codeScale_apply (r : FVec Ideal S64x1 .f32) (e : IVec S64x1 32) (t : Fin 64) :
    codeScale r e (ix2 t 0) = r (ix2 t 0) * Ideal.ofBits FTy.f32 0x37800000#32
      * Ideal.ofBits FTy.f32 (IntOp.shli ArithUnit.vector (IntOp.maxsi (IntOp.subi 253#32 (e (ix2 t 0))) 0#32) 23#32) := by
  unfold codeScale
  pointwise

theorem codeBlock_apply (c : FVec Ideal S64x1 .f32) (r : Vec Ideal S1x64x256 .bf16) (g : Vec Ideal S1x256 .f32) (t : Fin 64) (k : Fin 256) :
    codeBlock c r g (ix3 0 t k) = min (Ideal.ofBits FTy.f32 0x43E00000#32) (max (Ideal.ofBits FTy.f32 0xC3E00000#32)
      (r (ix3 0 t k) * c (ix2 t 0) * (g (ix2 0 k) * Ideal.ofBits FTy.f32 0x47800000#32))) := by
  unfold codeBlock
  pointwise

/-- The row of powers of two: the first 64 from one half, the last from the other. -/
theorem scaleRow_apply (c d : FVec Ideal S64x1 .f32) (k : Fin 128) :
    scaleRow c d (ix2 0 k) = if h : k.val < 64 then c (ix2 ⟨k.val, h⟩ 0) else d (ix2 ⟨k.val - 64, by omega⟩ 0) := by
  have hk := k.isLt
  have h0 := sum_diag (n := 64) (fun x => c (ix2 x 0)) 0 k.val (by norm_num) (by omega)
  have h1 := sum_diag (n := 64) (fun x => d (ix2 x 0)) 64 k.val (by norm_num) (by omega)
  simp only [Nat.zero_add] at h0
  have hs : scaleRow c d (ix2 0 k)
      = (∑ x : Fin 64, Scalar.select (IntOp.cmpi CmpIPredicate.eq (BitVec.ofNat 32 x.val) (BitVec.ofNat 32 k.val)) (c (ix2 x 0)) (0 : EReal))
        + ∑ x : Fin 64, Scalar.select (IntOp.cmpi CmpIPredicate.eq (BitVec.ofNat 32 (64 + x.val)) (BitVec.ofNat 32 k.val)) (d (ix2 x 0)) 0 := by
    unfold scaleRow
    pointwise
  rw [hs, h0, h1]
  by_cases h : k.val < 64
  · rw [dif_pos ⟨Nat.zero_le _, h⟩, dif_neg (by omega), dif_pos h, add_zero]
    rfl
  · rw [dif_neg (by omega), dif_pos ⟨by omega, by omega⟩, dif_neg h, zero_add]

end Cert.KernelIdeal.Hand

end
-- ==== Proof.TileValue.lean ====
/-
  What the kernel's body computes from its blocks, token by token: the residual, the codes and the power of two of `Cert.Value`.
-/
module

public import proofs.«01_k».proof.Proof.BlockValue

@[expose] public section

set_option maxRecDepth 16384

noncomputable section

namespace Cert.KernelIdeal.Hand

open Idealize.ShloMosaic Cert.KernelIdeal Cert.KernelIdeal.Gen Cert.Value

/-! ## The loads of a step -/

theorem ld_part (X : Vec Ideal S1x128x4x7168 .fp8e4m3) (h : Fin 2) (n : Fin 28) (j : Fin 2) (t : Fin 64) (p : Fin 4) (k : Fin 128) :
    (ld X (partRect h n j) : Vec Ideal S1x64x4x128 .fp8e4m3) (ix4 0 t p k) = X (ix4 0 (tok h t) p (col n ⟨128 * j.val + k.val, by omega⟩)) := by
  refine congrArg X (funext fun a => Fin.ext ?_)
  fin_cases a
  · rfl
  · show 64 * h.val + 1 * t.val = 64 * h.val + t.val; omega
  · show 0 + 1 * p.val = p.val; omega
  · show 256 * n.val + 128 * j.val + 1 * k.val = 256 * n.val + (128 * j.val + k.val); omega

theorem ld_tile {e : EltTy} (X : Vec Ideal S1x128x7168 e) (h : Fin 2) (n : Fin 28) (t : Fin 64) (k : Fin 256) :
    (ld X (tileRect h n) : Vec Ideal S1x64x256 e) (ix3 0 t k) = X (ix3 0 (tok h t) (col n k)) := by
  refine congrArg X (funext fun a => Fin.ext ?_)
  fin_cases a
  · rfl
  · show 64 * h.val + 1 * t.val = 64 * h.val + t.val; omega
  · show 256 * n.val + 1 * k.val = 256 * n.val + k.val; omega

theorem ld_row (X : Vec Ideal S1x7168 .f32) (n : Fin 28) (k : Fin 256) :
    (ld X (rowRect n) : Vec Ideal S1x256 .f32) (ix2 0 k) = X (ix2 0 (col n k)) := by
  refine congrArg X (funext fun a => Fin.ext ?_)
  fin_cases a
  · rfl
  · show 256 * n.val + 1 * k.val = 256 * n.val + k.val; omega

/-! ## A token of a block -/

variable (x0 : Vec Ideal S1x128x4x7168 .fp8e4m3) (x1 : Vec Ideal S1x4x128 .f32) (x2 : Vec Ideal S1x7168 .f32) (x3 : Vec Ideal S1x128x7168 .bf16) (x4 : Vec Ideal S1x7168 .f32)

/-- The new residual of token `T` of the block. -/
def rowRes (T : Fin 128) : Fin 7168 → EReal := fun l =>
  residual (fun q => x0 (ix4 0 T q l)) (fun q => x1 (ix3 0 q T)) (x2 (ix2 0 l)) (x3 (ix3 0 T l))

/-- The gain. -/
def rowGain : Fin 7168 → EReal := fun l => x4 (ix2 0 l)

theorem res_apply (h : Fin 2) (n : Fin 28) (t : Fin 64) (k : Fin 256) : res x0 x1 x2 x3 h n (ix2 t k) = rowRes x0 x1 x2 x3 (tok h t) (col n k) := by
  have hc : ∀ x : Fin 256, (if hk : k.val < 128 then (ld x0 (partRect h n 0) : Vec Ideal S1x64x4x128 .fp8e4m3) (ix4 0 ⟨x.val / 4, by omega⟩ ⟨x.val % 4, by omega⟩ ⟨k.val, hk⟩)
      else (ld x0 (partRect h n 1) : Vec Ideal S1x64x4x128 .fp8e4m3) (ix4 0 ⟨x.val / 4, by omega⟩ ⟨x.val % 4, by omega⟩ ⟨k.val - 128, by omega⟩))
      = (fun (u : Fin 64) (p : Fin 4) => x0 (ix4 0 (tok h u) p (col n k))) ⟨x.val / 4, by omega⟩ ⟨x.val % 4, by omega⟩ := fun x => by
    by_cases hk : k.val < 128
    · rw [dif_pos hk, ld_part]
      congr 2; apply Fin.ext; show 256 * n.val + (128 * 0 + k.val) = 256 * n.val + k.val; omega
    · rw [dif_neg hk, ld_part]
      congr 2; apply Fin.ext; show 256 * n.val + (128 * 1 + (k.val - 128)) = 256 * n.val + k.val; omega
  unfold res
  rw [resBlock_apply, ld_row, ld_tile, Finset.sum_congr rfl fun x _ => congrArg (scaleMat h x1 (ix2 t x) * ·) (hc x),
    dot_eq t (fun p => x1 (ix3 0 p (tok h t))) (fun (u : Fin 64) (p : Fin 4) => x0 (ix4 0 (tok h u) p (col n k))) (fun x => scaleMat h x1 (ix2 t x))
      (fun x => scaleMat_apply h x1 t x)]
  rfl

theorem resTile_apply (h : Fin 2) (n : Fin 28) (t : Fin 64) (k : Fin 256) : resTile x0 x1 x2 x3 h n (ix3 0 t k) = rowRes x0 x1 x2 x3 (tok h t) (col n k) := by
  unfold resTile
  rw [stored_apply, res_apply]

/-- A lane's column, as a column of the row. -/
theorem ext_lo (F : Fin 7168 → EReal) (n : Fin 28) (k : Fin 128) : ext F (256 * n.val + k.val) = F (col n (lo k)) := ext_of_lt F (col n (lo k)).isLt
theorem ext_hi (F : Fin 7168 → EReal) (n : Fin 28) (k : Fin 128) : ext F (256 * n.val + (128 + k.val)) = F (col n (hi k)) := ext_of_lt F (col n (hi k)).isLt

theorem accs_succ (h : Fin 2) (n : Fin 28) : accs x0 x1 x2 x3 x4 h (n.val + 1)
    = (ssqStep (accs x0 x1 x2 x3 x4 h n.val).1 (res x0 x1 x2 x3 h n), amaxStep (accs x0 x1 x2 x3 x4 h n.val).2 (res x0 x1 x2 x3 h n) (ld x4 (rowRect n))) := dif_pos n.isLt

/-- The sum of squares, over the lanes. -/
theorem ssq_eq (h : Fin 2) (t : Fin 64) : ∑ k : Fin 128, (accs x0 x1 x2 x3 x4 h 28).1 (ix2 t k)
    = ∑ l, rowRes x0 x1 x2 x3 (tok h t) l * rowRes x0 x1 x2 x3 (tok h t) l := by
  refine sum_lanes (fun l => rowRes x0 x1 x2 x3 (tok h t) l * rowRes x0 x1 x2 x3 (tok h t) l) (fun n k => (accs x0 x1 x2 x3 x4 h n).1 (ix2 t k)) (fun k => ?_) fun n hn k => ?_
  · exact Ideal.ofBits_zero_f32
  · have e := accs_succ x0 x1 x2 x3 x4 h ⟨n, hn⟩
    have e1 := ext_lo (fun l => rowRes x0 x1 x2 x3 (tok h t) l * rowRes x0 x1 x2 x3 (tok h t) l) ⟨n, hn⟩ k
    have e2 := ext_hi (fun l => rowRes x0 x1 x2 x3 (tok h t) l * rowRes x0 x1 x2 x3 (tok h t) l) ⟨n, hn⟩ k
    simp only at e e1 e2
    rw [e1, e2, e]
    show ssqStep _ _ (ix2 t k) = _
    rw [ssqStep_apply, res_apply, res_apply]

/-- The largest magnitude, over the lanes. -/
theorem amax_eq (h : Fin 2) (t : Fin 64) : (Finset.univ.sup fun k : Fin 128 => (accs x0 x1 x2 x3 x4 h 28).2 (ix2 t k))
    = Finset.univ.sup fun l => mag (rowRes x0 x1 x2 x3 (tok h t) l * rowGain x4 l) := by
  refine sup_lanes (fun l => mag (rowRes x0 x1 x2 x3 (tok h t) l * rowGain x4 l)) (fun l => mag_nonneg _) (fun n k => (accs x0 x1 x2 x3 x4 h n).2 (ix2 t k)) (fun k => ?_) fun n hn k => ?_
  · exact Ideal.ofBits_zero_f32
  · have e := accs_succ x0 x1 x2 x3 x4 h ⟨n, hn⟩
    have e1 := ext_lo (fun l => mag (rowRes x0 x1 x2 x3 (tok h t) l * rowGain x4 l)) ⟨n, hn⟩ k
    have e2 := ext_hi (fun l => mag (rowRes x0 x1 x2 x3 (tok h t) l * rowGain x4 l)) ⟨n, hn⟩ k
    simp only at e e1 e2
    rw [e1, e2, e]
    show amaxStep _ _ _ (ix2 t k) = _
    rw [amaxStep_apply, res_apply, res_apply, ld_row, ld_row]
    rfl

theorem rstd_eq (h : Fin 2) (t : Fin 64) : rstd (accs x0 x1 x2 x3 x4 h 28).1 (ix2 t 0) = rmsInv (rowRes x0 x1 x2 x3 (tok h t)) := by
  rw [rstd_apply, ssq_eq, ← mean_eq]
  rfl

theorem fields_eq (h : Fin 2) (t : Fin 64) : fields x0 x1 x2 x3 x4 h (ix2 t 0) = fieldOf (ratioOf (rowRes x0 x1 x2 x3 (tok h t)) (rowGain x4)) := by
  unfold fields
  rw [field_apply, ratio_apply, amax_eq, rstd_eq, ratio_eq]

theorem codeTile_apply (h : Fin 2) (n : Fin 28) (t : Fin 64) (k : Fin 256) :
    codeTile x0 x1 x2 x3 x4 h n (ix3 0 t k) = codeOf (rowRes x0 x1 x2 x3 (tok h t)) (rowGain x4) (col n k) := by
  unfold codeTile
  rw [codeBlock_apply, codeScale_apply, rstd_eq, fields_eq, resTile_apply, ld_row]
  exact code_eq (rowRes x0 x1 x2 x3 (tok h t)) (rowGain x4) (col n k)

theorem yScale_eq (h : Fin 2) (t : Fin 64) : (yScale (fields x0 x1 x2 x3 x4 h) : FVec Ideal S64x1 .f32) (ix2 t 0) = scaleOf (rowRes x0 x1 x2 x3 (tok h t)) (rowGain x4) := by
  rw [yScale_apply, fields_eq, scale_eq (ratioOf_nonneg _ _)]
  rfl

theorem scales_apply (T : Fin 128) : scales x0 x1 x2 x3 x4 (ix2 0 T) = scaleOf (rowRes x0 x1 x2 x3 T) (rowGain x4) := by
  unfold scales
  rw [scaleRow_apply]
  by_cases h : T.val < 64
  · rw [dif_pos h, yScale_eq]
    congr 2; apply Fin.ext; show 64 * 0 + T.val = T.val; omega
  · rw [dif_neg h, yScale_eq]
    congr 2; apply Fin.ext; show 64 * 1 + (T.val - 64) = T.val; omega

/-! ## The assembled blocks -/

theorem assemble_apply {e : EltTy} (G : Fin 2 → Fin 28 → Vec Ideal S1x64x256 e) (v : Fin 128 → Fin 7168 → Elt Ideal e)
    (hG : ∀ h n t k, G h n (ix3 0 t k) = v (tok h t) (col n k)) (T : Fin 128) (l : Fin 7168) : assemble G (ix3 0 T l) = v T l := by
  refine (hG ⟨T.val / 64, by omega⟩ ⟨l.val / 256, by omega⟩ ⟨T.val % 64, by omega⟩ ⟨l.val % 256, by omega⟩).trans ?_
  congr 1
  · apply Fin.ext; show 64 * (T.val / 64) + T.val % 64 = T.val; omega
  · apply Fin.ext; show 256 * (l.val / 256) + l.val % 256 = l.val; omega

theorem residual_block (T : Fin 128) (l : Fin 7168) : assemble (resTile x0 x1 x2 x3) (ix3 0 T l) = rowRes x0 x1 x2 x3 T l :=
  assemble_apply (e := .bf16) (resTile x0 x1 x2 x3) (rowRes x0 x1 x2 x3) (resTile_apply x0 x1 x2 x3) T l

theorem code_block (T : Fin 128) (l : Fin 7168) : assemble (codeTile x0 x1 x2 x3 x4) (ix3 0 T l) = codeOf (rowRes x0 x1 x2 x3 T) (rowGain x4) l :=
  assemble_apply (e := .fp8e4m3) (codeTile x0 x1 x2 x3 x4) (fun T l => codeOf (rowRes x0 x1 x2 x3 T) (rowGain x4) l) (codeTile_apply x0 x1 x2 x3 x4) T l

end Cert.KernelIdeal.Hand

end
-- ==== Proof.KernelArrays.lean ====
/-
  The kernel's run: its three result arrays are the residuals, the codes and the powers of two of `Cert.Value`.
-/
module

public import proofs.«01_k».proof.Proof.Results
public import proofs.«01_k».proof.Proof.TileValue
public import proofs.«01_k».proof.Proof.IdealRun
public import Idealize.ShloMosaic.Lib.Pipeline.ValueKit
public import Idealize.ShloMosaic.Lib.Pipeline.ArrRel
public import Idealize.ShloMosaic.Lib.StableHlo.RunRead

@[expose] public section

set_option maxRecDepth 16384

noncomputable section

namespace Cert.KernelIdeal.Hand

open Idealize.ShloMosaic Idealize.ShloMosaic.TcCoe Idealize.SL.Sem Cert.KernelIdeal Cert.KernelIdeal.Gen Cert.Value
open Idealize.ShloMosaic.Pipeline (Dat RDat Cfg Window)

variable (m : (ℓ : Loc nD τ sig) → Buf (Elt Ideal) ℓ)

/-! ## The arrays the region finds -/

theorem V_scales (c : Dev nD) : V m c main_v0 = transpose S3x4x2048 [0, 2, 1] (m ((c : Thread nD τ).loc main_arg1)) transposes_S3x2048x4_S3x4x2048_0_2_1 := by
  show StableHlo.after hostOps0 (fun b => m (c, b)) (Proc.devRef .tc main_v0) = _
  after_reads_simp

theorem V_bias (c : Dev nD) : V m c main_v1 = shapeCast S1x7168 (m ((c : Thread nD τ).loc main_arg2)) shapeCasts_S7168_S1x7168 := by
  show StableHlo.after hostOps0 (fun b => m (c, b)) (Proc.devRef .tc main_v1) = _
  after_reads_simp
  rfl

theorem V_gain (c : Dev nD) : V m c main_v2 = shapeCast S1x7168 (m ((c : Thread nD τ).loc main_arg4)) shapeCasts_S7168_S1x7168 := by
  show StableHlo.after hostOps0 (fun b => m (c, b)) (Proc.devRef .tc main_v2) = _
  after_reads_simp
  rfl

/-! ## The blocks of a grid point -/

/-- The batch of grid point `t`, -/
def batch (t : Fin cfg0.N) : Fin 3 := grid0.coords t 0
/-- and token `T` of its block. -/
def tokAt (t : Fin cfg0.N) (T : Fin 128) : Fin 2048 := ⟨128 * (grid0.coords t 1).val + T.val, by
  have h : (grid0.coords t 1).val < 16 := (grid0.coords t 1).isLt
  omega⟩

theorem batch_val (t : Fin cfg0.N) : (batch t).val = (grid0.coords t 0).val := rfl
theorem tokAt_val (t : Fin cfg0.N) (T : Fin 128) : (tokAt t T).val = (grid0.coords t 1).val * 128 + T.val := by
  rw [Nat.mul_comm]; rfl

theorem index0 : ∀ t : Fin cfg0.N, win0_0.index t = ![(grid0.coords t 0).val, (grid0.coords t 1).val, 0, 0] := by decide +kernel
theorem index1 : ∀ t : Fin cfg0.N, win0_1.index t = ![(grid0.coords t 0).val, 0, (grid0.coords t 1).val] := by decide +kernel
theorem index2 : ∀ t : Fin cfg0.N, win0_2.index t = ![0, 0] := by decide +kernel
theorem index3 : ∀ t : Fin cfg0.N, win0_3.index t = ![(grid0.coords t 0).val, (grid0.coords t 1).val, 0] := by decide +kernel
theorem index4 : ∀ t : Fin cfg0.N, win0_4.index t = ![0, 0] := by decide +kernel
theorem index5 : ∀ t : Fin cfg0.N, win0_5.index t = ![(grid0.coords t 0).val, (grid0.coords t 1).val, 0] := by decide +kernel
theorem index6 : ∀ t : Fin cfg0.N, win0_6.index t = ![(grid0.coords t 0).val, (grid0.coords t 1).val, 0] := by decide +kernel

theorem block0 (c : Dev nD) (t : Fin cfg0.N) (T : Fin 128) (q : Fin 4) (l : Fin 7168) :
    (iblk m c 0 t : Vec Ideal S1x128x4x7168 .fp8e4m3) (ix4 0 T q l) = m ((c : Thread nD τ).loc main_arg0) (ix4 (batch t) (tokAt t T) q l) := by
  rw [← V_main_arg0 m c]
  blk_ext [iblk, index0, batch_val, tokAt_val]

theorem block1 (c : Dev nD) (t : Fin cfg0.N) (T : Fin 128) (q : Fin 4) :
    (iblk m c 1 t : Vec Ideal S1x4x128 .f32) (ix3 0 q T) = m ((c : Thread nD τ).loc main_arg1) (ix3 (batch t) (tokAt t T) q) := by
  have h : (iblk m c 1 t : Vec Ideal S1x4x128 .f32) (ix3 0 q T) = V m c main_v0 (ix3 (batch t) q (tokAt t T)) := by
    blk_ext [iblk, index1, batch_val, tokAt_val]
  rw [h, V_scales]
  pointwise

theorem row_cast (v : Vec Ideal S7168 .f32) (l : Fin 7168) : shapeCast S1x7168 v shapeCasts_S7168_S1x7168 (ix2 0 l) = v (ix1 l) := by
  pointwise

theorem block2 (c : Dev nD) (t : Fin cfg0.N) (l : Fin 7168) :
    (iblk m c 2 t : Vec Ideal S1x7168 .f32) (ix2 0 l) = m ((c : Thread nD τ).loc main_arg2) (ix1 l) := by
  have h : (iblk m c 2 t : Vec Ideal S1x7168 .f32) (ix2 0 l) = V m c main_v1 (ix2 0 l) := by
    have hz : (fun a => win0_2.index t a * main_v1.ty.shape.size a) = fun _ => 0 := by
      rw [index2]
      funext a; fin_cases a <;> rfl
    exact congrFun (Memref.read_access_unit_zero (Elt Ideal) main_v1 hz (fun a => by rw [congrFun hz a, Nat.zero_add]) _) _
  rw [h, V_bias, row_cast]

theorem block3 (c : Dev nD) (t : Fin cfg0.N) (T : Fin 128) (l : Fin 7168) :
    (iblk m c 3 t : Vec Ideal S1x128x7168 .bf16) (ix3 0 T l) = m ((c : Thread nD τ).loc main_arg3) (ix3 (batch t) (tokAt t T) l) := by
  rw [← V_main_arg3 m c]
  blk_ext [iblk, index3, batch_val, tokAt_val]

theorem block4 (c : Dev nD) (t : Fin cfg0.N) (l : Fin 7168) :
    (iblk m c 4 t : Vec Ideal S1x7168 .f32) (ix2 0 l) = m ((c : Thread nD τ).loc main_arg4) (ix1 l) := by
  have h : (iblk m c 4 t : Vec Ideal S1x7168 .f32) (ix2 0 l) = V m c main_v2 (ix2 0 l) := by
    have hz : (fun a => win0_4.index t a * main_v2.ty.shape.size a) = fun _ => 0 := by
      rw [index4]
      funext a; fin_cases a <;> rfl
    exact congrFun (Memref.read_access_unit_zero (Elt Ideal) main_v2 hz (fun a => by rw [congrFun hz a, Nat.zero_add]) _) _
  rw [h, V_gain, row_cast]

/-- A token of the block is that token of the arrays. -/
theorem rowRes_eq (c : Dev nD) (t : Fin cfg0.N) (T : Fin 128) : rowRes (iblk m c 0 t) (iblk m c 1 t) (iblk m c 2 t) (iblk m c 3 t) T
    = tokenResidual (m ((c : Thread nD τ).loc main_arg0)) (m ((c : Thread nD τ).loc main_arg1)) (m ((c : Thread nD τ).loc main_arg2)) (m ((c : Thread nD τ).loc main_arg3)) (batch t) (tokAt t T) := by
  funext l
  unfold rowRes tokenResidual
  rw [block2, block3]
  simp only [block0, block1]

theorem rowGain_eq (c : Dev nD) (t : Fin cfg0.N) : rowGain (iblk m c 4 t) = gain (m ((c : Thread nD τ).loc main_arg4)) :=
  funext fun l => block4 m c t l

theorem resAt_apply (c : Dev nD) (t : Fin cfg0.N) (T : Fin 128) (l : Fin 7168) :
    resAt m c t (ix3 0 T l) = residuals (m ((c : Thread nD τ).loc main_arg0)) (m ((c : Thread nD τ).loc main_arg1)) (m ((c : Thread nD τ).loc main_arg2)) (m ((c : Thread nD τ).loc main_arg3)) (ix3 (batch t) (tokAt t T) l) := by
  unfold resAt
  rw [residual_block, rowRes_eq]
  rfl

theorem codeAt_apply (c : Dev nD) (t : Fin cfg0.N) (T : Fin 128) (l : Fin 7168) :
    codeAt m c t (ix3 0 T l) = codes (m ((c : Thread nD τ).loc main_arg0)) (m ((c : Thread nD τ).loc main_arg1)) (m ((c : Thread nD τ).loc main_arg2)) (m ((c : Thread nD τ).loc main_arg3)) (m ((c : Thread nD τ).loc main_arg4)) (ix3 (batch t) (tokAt t T) l) := by
  unfold codeAt
  rw [code_block, rowRes_eq, rowGain_eq]
  rfl

theorem scalesAt_apply (c : Dev nD) (t : Fin cfg0.N) (T : Fin 128) :
    scalesAt m c t (ix2 0 T) = tokenScales (m ((c : Thread nD τ).loc main_arg0)) (m ((c : Thread nD τ).loc main_arg1)) (m ((c : Thread nD τ).loc main_arg2)) (m ((c : Thread nD τ).loc main_arg3)) (m ((c : Thread nD τ).loc main_arg4)) (ix2 (batch t) (tokAt t T)) := by
  unfold scalesAt
  rw [scales_apply, rowRes_eq, rowGain_eq]
  rfl

/-! ## The arrays after the run -/

/-- An index of a block, by its token and its column. -/
theorem block_ix (y : S1x128x7168.Idx) : y = ix3 0 (y 1) (y 2) := by
  have h : (y 0).val < 1 := (y 0).isLt
  funext a; fin_cases a
  · apply Fin.ext; show (y 0).val = 0; omega
  · rfl
  · rfl

theorem array5 (c : Dev nD) : (dats m 0 c).arrAt 5 cfg0.N = residuals (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  have e : (win0_5.blk t).view.emb y = ix3 (batch t) (tokAt t (y 1)) (y 2) := by
    idx_bounds y
    blk_ext [index5, batch_val]
    exact (tokAt_val _ _).symm
  rw [after0_5, e]
  exact (congrArg (resAt m c t) (block_ix y)).trans (resAt_apply m c t (y 1) (y 2))

theorem array6 (c : Dev nD) : (dats m 0 c).arrAt 6 cfg0.N = codes (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  have e : (win0_6.blk t).view.emb y = ix3 (batch t) (tokAt t (y 1)) (y 2) := by
    idx_bounds y
    blk_ext [index6, batch_val]
    exact (tokAt_val _ _).symm
  rw [after0_6, e]
  exact (congrArg (codeAt m c t) (block_ix y)).trans (codeAt_apply m c t (y 1) (y 2))

/-- The last grid point, the one after which the scales are written back. -/
def tLast : Fin cfg0.N := ⟨47, by decide⟩

/-- The grid point of batch `i` that has token `T`. -/
def pointOf (i : Fin 3) (T : Fin 2048) : Fin cfg0.N := ⟨16 * i.val + T.val / 128, by
  have : cfg0.N = 48 := N_0
  omega⟩

theorem row_emb (i : Fin 3) (T : Fin 2048) :
    (rowAt (grid0.coords (pointOf i T))).emb (ix2 0 ⟨T.val % 128, Nat.mod_lt _ (by decide)⟩) = ix2 i T
      ∧ batch (pointOf i T) = i ∧ tokAt (pointOf i T) ⟨T.val % 128, Nat.mod_lt _ (by decide)⟩ = T := by
  obtain ⟨h0, h1⟩ := coords_vals (pointOf i T)
  have hp : (pointOf i T).val = 16 * i.val + T.val / 128 := rfl
  have hi := i.isLt
  have hT := T.isLt
  rw [hp] at h0 h1
  have e0 : (grid0.coords (pointOf i T) 0).val = i.val := by omega
  have e1 : (grid0.coords (pointOf i T) 1).val = T.val / 128 := by omega
  refine ⟨?_, Fin.ext e0, Fin.ext ?_⟩
  · funext a; fin_cases a
    · apply Fin.ext; show (grid0.coords (pointOf i T) 0).val + 1 * 0 = i.val; omega
    · apply Fin.ext; show 128 * (grid0.coords (pointOf i T) 1).val + 1 * (T.val % 128) = T.val; omega
  · show 128 * (grid0.coords (pointOf i T) 1).val + T.val % 128 = T.val; omega

/-- Every row is in place after the last point. -/
theorem rows_all {c : Dev nD} {X : Vec Ideal S3x2048 .f32} (hX : Rows m c tLast X) : X = tokenScales (m ((c : Thread nD τ).loc main_arg0)) (m ((c : Thread nD τ).loc main_arg1)) (m ((c : Thread nD τ).loc main_arg2)) (m ((c : Thread nD τ).loc main_arg3)) (m ((c : Thread nD τ).loc main_arg4)) := by
  funext y
  idx_vars y
  obtain ⟨e, hb, ht⟩ := row_emb y0 y1
  have hu : (pointOf y0 y1).val ≤ tLast.val := by
    show 16 * y0.val + y1.val / 128 ≤ 47
    omega
  have h := hX (pointOf y0 y1) hu (ix2 0 ⟨y1.val % 128, Nat.mod_lt _ (by decide)⟩)
  rw [e, scalesAt_apply, hb, ht] at h
  exact h

theorem array7 (c : Dev nD) {G : Buf (Elt Ideal) ((cfg0.win 7).arr.view.loc (c.tc : Thread nD τ))} (hG : (rdats m c).ArrAt 7 cfg0.N G) :
    G = tokenScales (m ((c : Thread nD τ).loc main_arg0)) (m ((c : Thread nD τ).loc main_arg1)) (m ((c : Thread nD τ).loc main_arg2)) (m ((c : Thread nD τ).loc main_arg3)) (m ((c : Thread nD τ).loc main_arg4)) := by
  have hw : (cfg0.win 7).WholeAt tLast := by decide +kernel
  obtain ⟨X, hL, hj⟩ := hG.emb_eq_of_wholeAt hw
  have hX : Rows m c tLast X := (dats m 0 c).toRRel_leaves (fgt := marked) (Rl := Rl m c) (w := 7) rfl hL
  funext j
  exact (hj j).trans (congrFun (rows_all m hX) j)

/-- A window that is not marked holds what the proof data name. -/
theorem array_of (c : Dev nD) {w : Fin cfg0.W} (hw : marked w = false) {G : Buf (Elt Ideal) ((cfg0.win w).arr.view.loc (c.tc : Thread nD τ))}
    (hG : (rdats m c).ArrAt w cfg0.N G) : G = (dats m 0 c).arrAt w cfg0.N :=
  (((dats m 0 c).toR.override_arrAt (by simp only [hw]) _ _).trans ((dats m 0 c).toR_arrAt_iff w _ _)).mp hG

variable (ρ : Dev nD → PrngReg)

/-- The kernel's run: its results, and its arguments as they were. -/
theorem run_value : θ_run defs (onTc (τ := τ) (main (F := Ideal))) ⟨m, fun _ => 0, ρ⟩ (fun r => ∀ c : Dev nD,
      r.2.mem ((c.tc : Thread nD τ).loc main_v3_0) = residuals (m ((c : Thread nD τ).loc main_arg0)) (m ((c : Thread nD τ).loc main_arg1)) (m ((c : Thread nD τ).loc main_arg2)) (m ((c : Thread nD τ).loc main_arg3))
      ∧ r.2.mem ((c.tc : Thread nD τ).loc main_v3_1) = codes (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3_2) = tokenScales (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(array_of m c rfl ((h.1 c).1 5)).trans (array5 m c), (array_of m c rfl ((h.1 c).1 6)).trans (array6 m c),
    array7 m c ((h.1 c).1 7), h.2 c⟩) (θ_run_and (run_main m ρ) (unchanged m ρ))

end Cert.KernelIdeal.Hand

end
-- ==== Proof.RefValue.lean ====
/-
  The reference's three blocks, element by element: each is the value that `Cert.Value` gives for its token.
-/
module

public import proofs.«01_k».proof.Proof.Token
public import proofs.«01_k».proof.Proof.Gen.ReferenceIdeal.Frame
public import Idealize.ShloMosaic.Lib.Pointwise

@[expose] public section

set_option maxRecDepth 16384

noncomputable section

namespace Cert.ReferenceIdeal.Hand

open Idealize.ShloMosaic Cert.ReferenceIdeal Cert.ReferenceIdeal.Gen Cert.Value

/-! ## The pure values -/

/-- A maximum along the last of three axes. -/
theorem max_last {n0 n1 n2 : ℕ} {t : Shape} (v : FVec Ideal ⟨3, ![n0, n1, n2]⟩ .f32) (h : (⟨3, ![n0, n1, n2]⟩ : Shape).Reduces [2] t) (hφ : FKind.Formats .f32)
    (hacc : 0xFF800000#32 = FKind.maximumf.neutral .f32 hφ) (j : t.Idx) :
    multiReduction .maximumf [2] t v 0xFF800000#32 h hφ hacc j
      = Finset.univ.sup fun k : Fin n2 => v (ix3 ⟨(j ⟨0, h.lt_r3_a2_0⟩).val, Shape.coordLt (j ⟨0, h.lt_r3_a2_0⟩) h.size_r3_a2_0⟩ ⟨(j ⟨1, h.lt_r3_a2_1⟩).val, Shape.coordLt (j ⟨1, h.lt_r3_a2_1⟩) h.size_r3_a2_1⟩ k) :=
  (multiReduction_maximumf_eq_fold v _ h hφ hacc j).trans ((h.fold_fiber_r3_a2 j _ _ v).trans (fold_max _))

/-- The reciprocal root of each token's mean square. -/
def invRms (r : FVec Ideal S3x2048x7168 .bf16) : FVec Ideal S3x2048x1 .f32 :=
  rsqrt (addf (divf (shapeCast S3x2048x1 (multiReduction .add [2] S3x2048 (mulf (extf .f32 r bitsLt_bf16_f32) (extf .f32 r bitsLt_bf16_f32)) 0x00000000#32
    reduces_S3x2048x7168_S3x2048 (.inl rfl) rfl) shapeCasts_S3x2048_S3x2048x1) (broadcast S3x2048x1 (Scalar.ofBits .f32 0x45E00000#32)))
    (broadcast S3x2048x1 (Scalar.ofBits .f32 0x358637BD#32)))

theorem invRms_apply (r : FVec Ideal S3x2048x7168 .bf16) (b : Fin 3) (t : Fin 2048) : invRms r (ix3 b t 0) = rmsInv fun l => r (ix3 b t l) := by
  unfold invRms
  pointwise
  rfl

/-- The normalized tokens times the gain. -/
def normed (r : FVec Ideal S3x2048x7168 .bf16) (g : Vec Ideal S7168 .f32) : FVec Ideal S3x2048x7168 .f32 :=
  mulf (mulf (extf .f32 r bitsLt_bf16_f32) (broadcastTo S3x2048x7168 (invRms r) broadcasts_S3x2048x1_S3x2048x7168))
    (broadcastTo S3x2048x7168 (shapeCast S1x1x7168 g shapeCasts_S7168_S1x1x7168) broadcasts_S1x1x7168_S3x2048x7168)

theorem normed_apply (r : FVec Ideal S3x2048x7168 .bf16) (g : Vec Ideal S7168 .f32) (b : Fin 3) (t : Fin 2048) (l : Fin 7168) :
    normed r g (ix3 b t l) = r (ix3 b t l) * invRms r (ix3 b t 0) * g (ix1 l) := by
  unfold normed
  pointwise

/-- Each token's largest magnitude over the largest code. -/
def ratioRef (y : FVec Ideal S3x2048x7168 .f32) : FVec Ideal S3x2048 .f32 :=
  mulf (multiReduction .maximumf [2] S3x2048 (absf y) 0xFF800000#32 reduces_S3x2048x7168_S3x2048 (.inl rfl) rfl) (broadcast S3x2048 (Scalar.ofBits .f32 0x3B124925#32))

theorem mulf_const (A : FVec Ideal S3x2048 .f32) (w : BitVec 32) (j : S3x2048.Idx) :
    mulf A (broadcast S3x2048 (Scalar.ofBits .f32 w)) j = A j * Ideal.ofBits FTy.f32 w := rfl

theorem rowMax_apply (y : FVec Ideal S3x2048x7168 .f32) (b : Fin 3) (t : Fin 2048) :
    multiReduction .maximumf [2] S3x2048 (absf y) 0xFF800000#32 reduces_S3x2048x7168_S3x2048 (.inl rfl) rfl (ix2 b t)
      = Finset.univ.sup fun l : Fin 7168 => mag (y (ix3 b t l)) := by
  rw [max_last (absf y) reduces_S3x2048x7168_S3x2048 (.inl rfl) rfl (ix2 b t)]
  exact Finset.sup_congr rfl fun l _ => rfl

theorem ratioRef_apply (y : FVec Ideal S3x2048x7168 .f32) (b : Fin 3) (t : Fin 2048) :
    ratioRef y (ix2 b t) = (Finset.univ.sup fun l : Fin 7168 => mag (y (ix3 b t l))) * Ideal.ofBits FTy.f32 0x3B124925#32 := by
  rw [← rowMax_apply, ratioRef, mulf_const]

/-- Each token's exponent. -/
def expRef (z : FVec Ideal S3x2048 .f32) : FVec Ideal S3x2048 .f32 :=
  select (ori (cmpf .olt z (broadcast S3x2048 (Scalar.ofBits .f32 0x00800000#32))) (cmpf .oeq z (broadcast S3x2048 (Scalar.ofBits .f32 0x7F800000#32))))
    (broadcast S3x2048 (Scalar.ofBits .f32 0x00000000#32))
    (addf (floor (divf (log z) (broadcast S3x2048 (Named.named κ "ln2" 0x3F317218#32)))) (broadcast S3x2048 (Scalar.ofBits .f32 0x3F800000#32)))

theorem expRef_apply (z : FVec Ideal S3x2048 .f32) (j : S3x2048.Idx) : expRef z j = frexpE (z j) := by
  unfold expRef
  pointwise
  rfl

theorem pay7_eq (v25 v28 v31 v35 v39 v54) : k0_pay7 (F := Ideal) v25 v28 v31 v35 v39 v54 = normed (k0_pay6 v25 v28 v31 v35 v39) v54 := rfl
theorem pay8_eq (v25 v28 v31 v35 v39 v54) : k0_pay8 (F := Ideal) v25 v28 v31 v35 v39 v54 = expRef (ratioRef (normed (k0_pay6 v25 v28 v31 v35 v39) v54)) := rfl

theorem pay1_apply (v57 : FVec Ideal S3x2048x7168 .f32) (v74 : FVec Ideal S3x2048 .f32) (b : Fin 3) (t : Fin 2048) (l : Fin 7168) :
    k0_pay1 v57 v74 (ix3 b t l) = min (Ideal.ofBits FTy.f32 0x43E00000#32) (max (Ideal.ofBits FTy.f32 0xC3E00000#32) (v57 (ix3 b t l) * ldexpOne (0 - v74 (ix2 b t)))) := by
  unfold k0_pay1
  pointwise
  rfl

theorem pay2_apply (v74 : FVec Ideal S3x2048 .f32) (j : S3x2048.Idx) : k0_pay2 v74 j = ldexpOne (v74 j) := by
  unfold k0_pay2
  pointwise
  rfl

end Cert.ReferenceIdeal.Hand

end
-- ==== Proof.RefArrays.lean ====
/-
  The reference's run: its three result arrays are the residuals, the codes and the powers of two of `Cert.Value`.
-/
module

public import proofs.«01_k».proof.Proof.Results
public import proofs.«01_k».proof.Proof.RefValue
public import Idealize.ShloMosaic.Lib.Pipeline.ValueKit

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.Value
open Idealize.ShloMosaic.Pipeline (Dat Cfg Window)

/-! ## The blocks -/

section Blocks

variable (x0 : Vec Ideal S3x2048x4x7168 .fp8e4m3) (x1 : Vec Ideal S3x2048x4 .f32) (x2 : Vec Ideal S7168 .f32) (x3 : Vec Ideal S3x2048x7168 .bf16) (x4 : Vec Ideal S7168 .f32)

/-- The new residuals as the reference forms them. -/
def res : FVec Ideal S3x2048x7168 .bf16 :=
  k0_pay6 (k0_pay9 x0 x1 x2 x3 x4) (k0_pay10 x0 x1 x2 x3 x4) (k0_pay11 x0 x1 x2 x3 x4) (View.ld x2 r0_8) (View.ld x3 r0_9)

theorem res_apply (b : Fin 3) (t : Fin 2048) (l : Fin 7168) : res x0 x1 x2 x3 x4 (ix3 b t l) = tokenResidual x0 x1 x2 x3 b t l := by
  unfold res k0_pay9 k0_pay10 k0_pay11 k0_pay3 k0_pay4 k0_pay5 k0_pay6
  pointwise
  rfl

theorem row_eq (b : Fin 3) (t : Fin 2048) : (fun l : Fin 7168 => res x0 x1 x2 x3 x4 (ix3 b t l)) = tokenResidual x0 x1 x2 x3 b t :=
  funext fun l => res_apply x0 x1 x2 x3 x4 b t l

theorem hz1 : (![0] : Fin S7168.rank → Nat) = fun _ => 0 := funext fun a => by fin_cases a; rfl
theorem hz2 : (![0, 0] : Fin S3x2048.rank → Nat) = fun _ => 0 := funext fun a => by fin_cases a <;> rfl
theorem hz3 : (![0, 0, 0] : Fin S3x2048x7168.rank → Nat) = fun _ => 0 := funext fun a => by fin_cases a <;> rfl

theorem ld_gain : (View.ld x4 r0_8 : Vec Ideal S7168 .f32) = x4 := View.ld_unit_zero hz1 _ _

theorem y_apply (b : Fin 3) (t : Fin 2048) (l : Fin 7168) :
    normed (res x0 x1 x2 x3 x4) x4 (ix3 b t l) = tokenResidual x0 x1 x2 x3 b t l * rmsInv (tokenResidual x0 x1 x2 x3 b t) * gain x4 l := by
  rw [normed_apply, invRms_apply, row_eq, res_apply]
  rfl

theorem ratio_of_row (y : FVec Ideal S3x2048x7168 .f32) (b : Fin 3) (t : Fin 2048) (R g : Fin 7168 → EReal) (h : ∀ l, y (ix3 b t l) = R l * rmsInv R * g l) :
    ratioRef y (ix2 b t) = ratioOf R g := by
  rw [ratioRef_apply]
  unfold ratioOf
  rw [Finset.sup_congr rfl fun l _ => congrArg mag (h l)]

theorem exp_apply (b : Fin 3) (t : Fin 2048) :
    expRef (ratioRef (normed (res x0 x1 x2 x3 x4) x4)) (ix2 b t) = frexpE (ratioOf (tokenResidual x0 x1 x2 x3 b t) (gain x4)) := by
  rw [expRef_apply, ratio_of_row _ b t _ _ (y_apply x0 x1 x2 x3 x4 b t)]

theorem out5_eq : out0_5 x0 x1 x2 x3 x4 = residuals x0 x1 x2 x3 := by
  unfold out0_5
  rw [View.canon_unit_zero hz3]
  funext y
  idx_vars y
  exact res_apply x0 x1 x2 x3 x4 _ _ _

theorem out6_eq : out0_6 x0 x1 x2 x3 x4 = codes x0 x1 x2 x3 x4 := by
  unfold out0_6 k0_pay12
  rw [View.canon_unit_zero hz3, ld_gain x4, pay7_eq, pay8_eq]
  funext y
  idx_vars y
  rw [pay1_apply]
  have hy := y_apply x0 x1 x2 x3 x4 y0 y1 y2
  have he := exp_apply x0 x1 x2 x3 x4 y0 y1
  unfold res at hy he
  rw [hy, he]
  rfl

theorem out7_eq : out0_7 x0 x1 x2 x3 x4 = tokenScales x0 x1 x2 x3 x4 := by
  unfold out0_7 k0_pay12
  rw [View.canon_unit_zero hz2, ld_gain x4, pay8_eq]
  funext y
  idx_vars y
  rw [pay2_apply]
  exact congrArg ldexpOne (exp_apply x0 x1 x2 x3 x4 _ _)

end Blocks

/-! ## The arrays after the run -/

section Arrays

variable (m : (ℓ : Loc nD τ sig) → Buf (Elt Ideal) ℓ)

/-- The one grid point. -/
def t₀ : Fin cfg0.N := ⟨0, by decide⟩

/-- Each argument is read whole. -/
theorem iblk0 (c : Dev nD) : iblk m c 0 t₀ = m ((c : Thread nD τ).loc main_arg0) := by
  have hz : (fun a => (win0_0.index t₀) a * main_arg0.ty.shape.size a) = fun _ => 0 := funext fun a => by fin_cases a <;> decide
  exact Memref.read_access_unit_zero (Elt Ideal) main_arg0 hz (fun a => by fin_cases a <;> decide) _

theorem iblk1 (c : Dev nD) : iblk m c 1 t₀ = m ((c : Thread nD τ).loc main_arg1) := by
  have hz : (fun a => (win0_1.index t₀) a * main_arg1.ty.shape.size a) = fun _ => 0 := funext fun a => by fin_cases a <;> decide
  exact Memref.read_access_unit_zero (Elt Ideal) main_arg1 hz (fun a => by fin_cases a <;> decide) _

theorem iblk2 (c : Dev nD) : iblk m c 2 t₀ = m ((c : Thread nD τ).loc main_arg2) := by
  have hz : (fun a => (win0_2.index t₀) a * main_arg2.ty.shape.size a) = fun _ => 0 := funext fun a => by fin_cases a <;> decide
  exact Memref.read_access_unit_zero (Elt Ideal) main_arg2 hz (fun a => by fin_cases a <;> decide) _

theorem iblk3 (c : Dev nD) : iblk m c 3 t₀ = m ((c : Thread nD τ).loc main_arg3) := by
  have hz : (fun a => (win0_3.index t₀) a * main_arg3.ty.shape.size a) = fun _ => 0 := funext fun a => by fin_cases a <;> decide
  exact Memref.read_access_unit_zero (Elt Ideal) main_arg3 hz (fun a => by fin_cases a <;> decide) _

theorem iblk4 (c : Dev nD) : iblk m c 4 t₀ = m ((c : Thread nD τ).loc main_arg4) := by
  have hz : (fun a => (win0_4.index t₀) a * main_arg4.ty.shape.size a) = fun _ => 0 := funext fun a => by fin_cases a <;> decide
  exact Memref.read_access_unit_zero (Elt Ideal) main_arg4 hz (fun a => by fin_cases a <;> decide) _

theorem array5 (c : Dev nD) : (dats m 0 c).arrAt 5 cfg0.N = residuals (m ((c : Thread nD τ).loc main_arg0)) (m ((c : Thread nD τ).loc main_arg1)) (m ((c : Thread nD τ).loc main_arg2)) (m ((c : Thread nD τ).loc main_arg3)) := by
  refine (dats m 0 c).arrAt_eq_of_after_last 5 t₀ (by decide +kernel) _ fun j => ?_
  rw [after0_5, iblk0, iblk1, iblk2, iblk3, iblk4, out5_eq]
  rfl

theorem array6 (c : Dev nD) : (dats m 0 c).arrAt 6 cfg0.N = codes (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t₀ (by decide +kernel) _ fun j => ?_
  rw [after0_6, iblk0, iblk1, iblk2, iblk3, iblk4, out6_eq]
  rfl

theorem array7 (c : Dev nD) : (dats m 0 c).arrAt 7 cfg0.N = tokenScales (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t₀ (by decide +kernel) _ fun j => ?_
  rw [after0_7, iblk0, iblk1, iblk2, iblk3, iblk4, out7_eq]
  rfl

variable (ρ : Dev nD → PrngReg)

/-- The reference's run: its results, and its arguments as they were. -/
theorem run_value : θ_run defs (onTc (τ := τ) (main (F := Ideal))) ⟨m, fun _ => 0, ρ⟩ (fun r => ∀ c : Dev nD,
      r.2.mem ((c.tc : Thread nD τ).loc main_v0_0) = residuals (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = codes (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = tokenScales (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.out_eq c 5).trans (array5 m c), (h.1.out_eq c 6).trans (array6 m c),
    (h.1.out_eq c 7).trans (array7 m c), h.2 c⟩) (θ_run_and (run_main m ρ) (unchanged m ρ))

end Arrays

end Cert.ReferenceIdeal.Hand

end
-- ==== Proof.Equation.lean ====
/-
  The equation: from equal arguments the kernel and the reference end with equal results.
-/
module

public import proofs.«01_k».proof.Defs
public import proofs.«01_k».proof.Proof.KernelArrays
public import proofs.«01_k».proof.Proof.RefArrays

@[expose] public section

noncomputable section

namespace Cert.Proof

open Idealize.ShloMosaic

theorem algebraic : Cert.algebraic_KernelIdeal_ReferenceIdeal (hKernelIdeal := Cert.KernelIdeal.Gen.facts) (hReferenceIdeal := Cert.ReferenceIdeal.Gen.facts) := by
  intro m g m' g' _ h
  refine ⟨_, _, _, Cert.KernelIdeal.Hand.run_value m g, ?_⟩
  have hr := Cert.ReferenceIdeal.Hand.run_value m' g'
  refine (θ_run _ _ _).mono (fun r hv c => ?_) hr
  obtain ⟨e0, e1, e2, e3, e4⟩ := h c
  obtain ⟨h0, h1, h2, ha⟩ := hv c
  rw [e0, e1, e2, e3] at h0
  rw [e0, e1, e2, e3, e4] at h1 h2
  exact ⟨h0, h1, h2, ha⟩

end Cert.Proof

end
-- ==== Proof.lean ====
/-
  The proof of `Cert.Claim`: the three frames, the named constant, and the equation of the kernel with the reference.
-/
module

public import proofs.«01_k».proof.Defs
public import proofs.«01_k».proof.Proof.KernelFrame
public import proofs.«01_k».proof.Proof.IdealRun
public import proofs.«01_k».proof.Proof.Equation

@[expose] public section

noncomputable section

namespace Cert.Proof

open Idealize.ShloMosaic

/-- The constant that the program states as a rounded reciprocal is read as one over the row's length. -/
theorem preserves : Cert.preserves_Kernel_KernelIdeal :=
  IdealRules.named_const.statement Cert.KernelIdeal.κ "inv_d" .f32 0x39124925#32 ((1 / 7168 : ℝ) : EReal) rfl

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, fun m ρ _ => Cert.ReferenceIdeal.Gen.frame m ρ,
  preserves, algebraic⟩

end Cert.Proof

end
